-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S2048x4096 : Shape := ⟨2, ![2048, 4096]⟩
abbrev S2048x1024 : Shape := ⟨2, ![2048, 1024]⟩
abbrev S128x64 : Shape := ⟨2, ![128, 64]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x4096 .f32) (main_arg1 : FVec F S2048x1024 .f32) (main_arg2 : FVec F S2048x1024 .f32) (main_arg3 : FVec F S128x64 .f32) (main_arg4 : FVec F S128x64 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S2048x4096 : Shape := ⟨2, ![2048, 4096]⟩
abbrev S2048x1024 : Shape := ⟨2, ![2048, 1024]⟩
abbrev S128x64 : Shape := ⟨2, ![128, 64]⟩
abbrev S1x2048x32x128 : Shape := ⟨4, ![1, 2048, 32, 128]⟩
abbrev S1x32x2048x128 : Shape := ⟨4, ![1, 32, 2048, 128]⟩
abbrev S1x2048x8x128 : Shape := ⟨4, ![1, 2048, 8, 128]⟩
abbrev S1x8x2048x128 : Shape := ⟨4, ![1, 8, 2048, 128]⟩
abbrev S1x8x4x2048x128 : Shape := ⟨5, ![1, 8, 4, 2048, 128]⟩
abbrev S1x32x16x128x128 : Shape := ⟨5, ![1, 32, 16, 128, 128]⟩
abbrev S_ : Shape := ⟨0, ![]⟩
abbrev S1x32x16x128 : Shape := ⟨4, ![1, 32, 16, 128]⟩
abbrev S32x16x128 : Shape := ⟨3, ![32, 16, 128]⟩
abbrev S16x8x4x16 : Shape := ⟨4, ![16, 8, 4, 16]⟩
abbrev S16x16 : Shape := ⟨2, ![16, 16]⟩
abbrev S1x16x128 : Shape := ⟨3, ![1, 16, 128]⟩
abbrev S16x128 : Shape := ⟨2, ![16, 128]⟩
abbrev S16x64 : Shape := ⟨2, ![16, 64]⟩
abbrev S16x1x1x16 : Shape := ⟨4, ![16, 1, 1, 16]⟩
abbrev S128x512 : Shape := ⟨2, ![128, 512]⟩
abbrev S2048x128 : Shape := ⟨2, ![2048, 128]⟩
abbrev S1x1x4x16 : Shape := ⟨4, ![1, 1, 4, 16]⟩
abbrev S128x128 : Shape := ⟨2, ![128, 128]⟩
abbrev S512x128 : Shape := ⟨2, ![512, 128]⟩
abbrev S4x16 : Shape := ⟨2, ![4, 16]⟩
abbrev S512x4 : Shape := ⟨2, ![512, 4]⟩
abbrev S512x16 : Shape := ⟨2, ![512, 16]⟩
abbrev S512x1 : Shape := ⟨2, ![512, 1]⟩
abbrev S512x512 : Shape := ⟨2, ![512, 512]⟩
abbrev S16x512 : Shape := ⟨2, ![16, 512]⟩
abbrev S512 : Shape := ⟨1, ![512]⟩

abbrev nBuf : Space → Nat
  | .hbm => 33
  | .vmem => 15
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x1024, .f32⟩
  | .hbm, ⟨3, _⟩ => ⟨S128x64, .f32⟩
  | .hbm, ⟨4, _⟩ => ⟨S128x64, .f32⟩
  | .hbm, ⟨5, _⟩ => ⟨S1x2048x32x128, .f32⟩
  | .hbm, ⟨6, _⟩ => ⟨S1x32x2048x128, .f32⟩
  | .hbm, ⟨7, _⟩ => ⟨S1x2048x8x128, .f32⟩
  | .hbm, ⟨8, _⟩ => ⟨S1x8x2048x128, .f32⟩
  | .hbm, ⟨9, _⟩ => ⟨S1x8x4x2048x128, .f32⟩
  | .hbm, ⟨10, _⟩ => ⟨S1x32x2048x128, .f32⟩
  | .hbm, ⟨11, _⟩ => ⟨S1x32x16x128x128, .f32⟩
  | .hbm, ⟨12, _⟩ => ⟨S_, .f32⟩
  | .hbm, ⟨13, _⟩ => ⟨S1x32x16x128, .f32⟩
  | .hbm, ⟨14, _⟩ => ⟨S_, .f32⟩
  | .hbm, ⟨15, _⟩ => ⟨S1x32x16x128, .f32⟩
  | .hbm, ⟨16, _⟩ => ⟨S1x32x16x128, .f32⟩
  | .hbm, ⟨17, _⟩ => ⟨S32x16x128, .f32⟩
  | .hbm, ⟨18, _⟩ => ⟨S1x32x16x128x128, .f32⟩
  | .hbm, ⟨19, _⟩ => ⟨S_, .f32⟩
  | .hbm, ⟨20, _⟩ => ⟨S1x32x16x128, .f32⟩
  | .hbm, ⟨21, _⟩ => ⟨S_, .f32⟩
  | .hbm, ⟨22, _⟩ => ⟨S1x32x16x128, .f32⟩
  | .hbm, ⟨23, _⟩ => ⟨S1x32x16x128, .f32⟩
  | .hbm, ⟨24, _⟩ => ⟨S32x16x128, .f32⟩
  | .hbm, ⟨25, _⟩ => ⟨S16x8x4x16, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S2048x4096, .bf16⟩
  | .hbm, ⟨30, _⟩ => ⟨S2048x1024, .bf16⟩
  | .hbm, ⟨31, _⟩ => ⟨S2048x1024, .bf16⟩
  | .hbm, ⟨32, _⟩ => ⟨S2048x4096, .f32⟩
  | .local _ .vmem, ⟨0, _⟩ => ⟨S32x16x128, .f32⟩
  | .local _ .vmem, ⟨1, _⟩ => ⟨S32x16x128, .f32⟩
  | .local _ .vmem, ⟨2, _⟩ => ⟨S128x64, .f32⟩
  | .local _ .vmem, ⟨3, _⟩ => ⟨S128x64, .f32⟩
  | .local _ .vmem, ⟨4, _⟩ => ⟨S16x8x4x16, .f32⟩
  | .local _ .vmem, ⟨5, _⟩ => ⟨S128x512, .bf16⟩
  | .local _ .vmem, ⟨6, _⟩ => ⟨S128x512, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S1x1x4x16, .f32⟩
  | .local _ .vmem, ⟨12, _⟩ => ⟨S1x1x4x16, .f32⟩
  | .local _ .vmem, ⟨13, _⟩ => ⟨S128x512, .f32⟩
  | .local _ .vmem, ⟨14, _⟩ => ⟨S128x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := .none

abbrev stage0_0 : Fin 1 → Memref sig .tc .vmem S32x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x8x4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![8, 16], ![false, false]⟩

@[reducible] def k1_t1_loop (i : grid1.Coords) : Scf.Loop 32 :=
  let c0_i32_21 : BitVec 32 := 0#32
  let arg1 : BitVec 32 := BitVec.ofNat 32 (i 1).val
  let c0_i32_15 : BitVec 32 := 0#32
  let v48 : BitVec 1 := Scalar.cmpi .sgt arg1 c0_i32_15
  let v49 : BitVec 32 := Scalar.extui v48
  let c0_i32_16 : BitVec 32 := 0#32
  let v50 : BitVec 1 := Scalar.cmpi .slt arg1 c0_i32_16
  let v51 : BitVec 32 := Scalar.extui v50
  let v52 : BitVec 32 := Scalar.subi v49 v51
  let c4_i32 : BitVec 32 := 4#32
  let c0_i32_17 : BitVec 32 := 0#32
  let v53 : BitVec 1 := Scalar.cmpi .sgt c4_i32 c0_i32_17
  let v54 : BitVec 32 := Scalar.extui v53
  let c0_i32_18 : BitVec 32 := 0#32
  let v55 : BitVec 1 := Scalar.cmpi .slt c4_i32 c0_i32_18
  let v56 : BitVec 32 := Scalar.extui v55
  let v57 : BitVec 32 := Scalar.subi v54 v56
  let v58 : BitVec 1 := Scalar.cmpi .ne v52 v57
  let v59 : BitVec 32 := Scalar.remsi arg1 c4_i32
  let c0_i32_19 : BitVec 32 := 0#32
  let v60 : BitVec 1 := Scalar.cmpi .ne v59 c0_i32_19
  let v61 : BitVec 1 := Scalar.andi v58 v60
  let v47 : BitVec 32 := Scalar.divsi arg1 c4_i32
  let c1_i32_20 : BitVec 32 := 1#32
  let v62 : BitVec 32 := Scalar.subi v47 c1_i32_20
  let v63 : BitVec 32 := Scalar.select v61 v62 v47
  let v64 : BitVec 32 := Scalar.subi v63 c0_i32_21
  let c1_i32_22 : BitVec 32 := 1#32
  let v66 : BitVec 32 := Scalar.divsi v64 c1_i32_22
  let v67 : BitVec 32 := Scalar.muli v66 c1_i32_22
  let v68 : BitVec 32 := Scalar.addi c0_i32_21 v67
  let c1_i32_23 : BitVec 32 := 1#32
  ⟨c0_i32_21, v68, c1_i32_23⟩
def k1_off1 (i : grid1.Coords) (k1_t1 : Fin (k1_t1_loop i).trips) : Fin 2 → Nat :=
  let c0_i32_21 : BitVec 32 := 0#32
  let c1_i32_23 : BitVec 32 := 1#32
  let arg7 : BitVec 32 := Scf.iv c0_i32_21 c1_i32_23 k1_t1
  let c512_i32_52 : BitVec 32 := 512#32
  let v155 : BitVec 32 := Scalar.muli arg7 c512_i32_52
  let v156 : Index := Scalar.indexCast v155
  let c0_53 : Index := 0#32
  ![v156.toNat, 0]
@[reducible] def k1_t2_loop (i : grid1.Coords) : Scf.Loop 32 :=
  let c0_i32_21 : BitVec 32 := 0#32
  let arg1 : BitVec 32 := BitVec.ofNat 32 (i 1).val
  let c0_i32_15 : BitVec 32 := 0#32
  let v48 : BitVec 1 := Scalar.cmpi .sgt arg1 c0_i32_15
  let v49 : BitVec 32 := Scalar.extui v48
  let c0_i32_16 : BitVec 32 := 0#32
  let v50 : BitVec 1 := Scalar.cmpi .slt arg1 c0_i32_16
  let v51 : BitVec 32 := Scalar.extui v50
  let v52 : BitVec 32 := Scalar.subi v49 v51
  let c4_i32 : BitVec 32 := 4#32
  let c0_i32_17 : BitVec 32 := 0#32
  let v53 : BitVec 1 := Scalar.cmpi .sgt c4_i32 c0_i32_17
  let v54 : BitVec 32 := Scalar.extui v53
  let c0_i32_18 : BitVec 32 := 0#32
  let v55 : BitVec 1 := Scalar.cmpi .slt c4_i32 c0_i32_18
  let v56 : BitVec 32 := Scalar.extui v55
  let v57 : BitVec 32 := Scalar.subi v54 v56
  let v58 : BitVec 1 := Scalar.cmpi .ne v52 v57
  let v59 : BitVec 32 := Scalar.remsi arg1 c4_i32
  let c0_i32_19 : BitVec 32 := 0#32
  let v60 : BitVec 1 := Scalar.cmpi .ne v59 c0_i32_19
  let v61 : BitVec 1 := Scalar.andi v58 v60
  let v47 : BitVec 32 := Scalar.divsi arg1 c4_i32
  let c1_i32_20 : BitVec 32 := 1#32
  let v62 : BitVec 32 := Scalar.subi v47 c1_i32_20
  let v63 : BitVec 32 := Scalar.select v61 v62 v47
  let v64 : BitVec 32 := Scalar.subi v63 c0_i32_21
  let c1_i32_22 : BitVec 32 := 1#32
  let v66 : BitVec 32 := Scalar.divsi v64 c1_i32_22
  let v67 : BitVec 32 := Scalar.muli v66 c1_i32_22
  let v68 : BitVec 32 := Scalar.addi c0_i32_21 v67
  let v65 : BitVec 32 := Scalar.addi c0_i32_21 v64
  let c1_i32_24 : BitVec 32 := 1#32
  ⟨v68, v65, c1_i32_24⟩
def k1_off2 (i : grid1.Coords) (k1_t2 : Fin (k1_t2_loop i).trips) : Fin 2 → Nat :=
  let c0_i32_21 : BitVec 32 := 0#32
  let arg1 : BitVec 32 := BitVec.ofNat 32 (i 1).val
  let c0_i32_15 : BitVec 32 := 0#32
  let v48 : BitVec 1 := Scalar.cmpi .sgt arg1 c0_i32_15
  let v49 : BitVec 32 := Scalar.extui v48
  let c0_i32_16 : BitVec 32 := 0#32
  let v50 : BitVec 1 := Scalar.cmpi .slt arg1 c0_i32_16
  let v51 : BitVec 32 := Scalar.extui v50
  let v52 : BitVec 32 := Scalar.subi v49 v51
  let c4_i32 : BitVec 32 := 4#32
  let c0_i32_17 : BitVec 32 := 0#32
  let v53 : BitVec 1 := Scalar.cmpi .sgt c4_i32 c0_i32_17
  let v54 : BitVec 32 := Scalar.extui v53
  let c0_i32_18 : BitVec 32 := 0#32
  let v55 : BitVec 1 := Scalar.cmpi .slt c4_i32 c0_i32_18
  let v56 : BitVec 32 := Scalar.extui v55
  let v57 : BitVec 32 := Scalar.subi v54 v56
  let v58 : BitVec 1 := Scalar.cmpi .ne v52 v57
  let v59 : BitVec 32 := Scalar.remsi arg1 c4_i32
  let c0_i32_19 : BitVec 32 := 0#32
  let v60 : BitVec 1 := Scalar.cmpi .ne v59 c0_i32_19
  let v61 : BitVec 1 := Scalar.andi v58 v60
  let v47 : BitVec 32 := Scalar.divsi arg1 c4_i32
  let c1_i32_20 : BitVec 32 := 1#32
  let v62 : BitVec 32 := Scalar.subi v47 c1_i32_20
  let v63 : BitVec 32 := Scalar.select v61 v62 v47
  let v64 : BitVec 32 := Scalar.subi v63 c0_i32_21
  let c1_i32_22 : BitVec 32 := 1#32
  let v66 : BitVec 32 := Scalar.divsi v64 c1_i32_22
  let v67 : BitVec 32 := Scalar.muli v66 c1_i32_22
  let v68 : BitVec 32 := Scalar.addi c0_i32_21 v67
  let c1_i32_24 : BitVec 32 := 1#32
  let arg7 : BitVec 32 := Scf.iv v68 c1_i32_24 k1_t2
  let c512_i32_52 : BitVec 32 := 512#32
  let v155 : BitVec 32 := Scalar.muli arg7 c512_i32_52
  let v156 : Index := Scalar.indexCast v155
  let c0_53 : Index := 0#32
  ![v156.toNat, 0]
def k1_off3 (i : grid1.Coords) : Fin 2 → Nat :=
  let arg1 : BitVec 32 := BitVec.ofNat 32 (i 1).val
  let c0_i32_15 : BitVec 32 := 0#32
  let v48 : BitVec 1 := Scalar.cmpi .sgt arg1 c0_i32_15
  let v49 : BitVec 32 := Scalar.extui v48
  let c0_i32_16 : BitVec 32 := 0#32
  let v50 : BitVec 1 := Scalar.cmpi .slt arg1 c0_i32_16
  let v51 : BitVec 32 := Scalar.extui v50
  let v52 : BitVec 32 := Scalar.subi v49 v51
  let c4_i32 : BitVec 32 := 4#32
  let c0_i32_17 : BitVec 32 := 0#32
  let v53 : BitVec 1 := Scalar.cmpi .sgt c4_i32 c0_i32_17
  let v54 : BitVec 32 := Scalar.extui v53
  let c0_i32_18 : BitVec 32 := 0#32
  let v55 : BitVec 1 := Scalar.cmpi .slt c4_i32 c0_i32_18
  let v56 : BitVec 32 := Scalar.extui v55
  let v57 : BitVec 32 := Scalar.subi v54 v56
  let v58 : BitVec 1 := Scalar.cmpi .ne v52 v57
  let v59 : BitVec 32 := Scalar.remsi arg1 c4_i32
  let c0_i32_19 : BitVec 32 := 0#32
  let v60 : BitVec 1 := Scalar.cmpi .ne v59 c0_i32_19
  let v61 : BitVec 1 := Scalar.andi v58 v60
  let v47 : BitVec 32 := Scalar.divsi arg1 c4_i32
  let c1_i32_20 : BitVec 32 := 1#32
  let v62 : BitVec 32 := Scalar.subi v47 c1_i32_20
  let v63 : BitVec 32 := Scalar.select v61 v62 v47
  let c512_i32 : BitVec 32 := 512#32
  let v71 : BitVec 32 := Scalar.muli v63 c512_i32
  let v72 : Index := Scalar.indexCast v71
  let c0_25 : Index := 0#32
  ![v72.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x4x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "neg" => some ⊥
  | _ => none
-- ==== ReferenceIdeal.lean ====
abbrev S2048x4096 : Shape := ⟨2, ![2048, 4096]⟩
abbrev S2048x1024 : Shape := ⟨2, ![2048, 1024]⟩
abbrev S128x64 : Shape := ⟨2, ![128, 64]⟩
abbrev S1x2048x32x128 : Shape := ⟨4, ![1, 2048, 32, 128]⟩
abbrev S1x32x2048x128 : Shape := ⟨4, ![1, 32, 2048, 128]⟩
abbrev S1x2048x8x128 : Shape := ⟨4, ![1, 2048, 8, 128]⟩
abbrev S1x8x2048x128 : Shape := ⟨4, ![1, 8, 2048, 128]⟩
abbrev S1x8x4x2048x128 : Shape := ⟨5, ![1, 8, 4, 2048, 128]⟩
abbrev S1x32x16x128x128 : Shape := ⟨5, ![1, 32, 16, 128, 128]⟩
abbrev S_ : Shape := ⟨0, ![]⟩
abbrev S1x32x16x128 : Shape := ⟨4, ![1, 32, 16, 128]⟩
abbrev S1x32x16x64 : Shape := ⟨4, ![1, 32, 16, 64]⟩
abbrev S1x32x16x16 : Shape := ⟨4, ![1, 32, 16, 16]⟩
abbrev S16x16 : Shape := ⟨2, ![16, 16]⟩
abbrev S1x1x16x16 : Shape := ⟨4, ![1, 1, 16, 16]⟩
abbrev S1x32x16x128x16 : Shape := ⟨5, ![1, 32, 16, 128, 16]⟩
abbrev S1x32x2048x16 : Shape := ⟨4, ![1, 32, 2048, 16]⟩
abbrev S1x32x2048x16x128 : Shape := ⟨5, ![1, 32, 2048, 16, 128]⟩
abbrev S1x32x2048x2048 : Shape := ⟨4, ![1, 32, 2048, 2048]⟩
abbrev S2048x2048 : Shape := ⟨2, ![2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩

abbrev nBuf : Space → Nat
  | .hbm => 98
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x1024, .f32⟩
  | .hbm, ⟨3, _⟩ => ⟨S128x64, .f32⟩
  | .hbm, ⟨4, _⟩ => ⟨S128x64, .f32⟩
  | .hbm, ⟨5, _⟩ => ⟨S1x2048x32x128, .f32⟩
  | .hbm, ⟨6, _⟩ => ⟨S1x32x2048x128, .f32⟩
  | .hbm, ⟨7, _⟩ => ⟨S1x2048x8x128, .f32⟩
  | .hbm, ⟨8, _⟩ => ⟨S1x8x2048x128, .f32⟩
  | .hbm, ⟨9, _⟩ => ⟨S1x2048x8x128, .f32⟩
  | .hbm, ⟨10, _⟩ => ⟨S1x8x2048x128, .f32⟩
  | .hbm, ⟨11, _⟩ => ⟨S1x8x4x2048x128, .f32⟩
  | .hbm, ⟨12, _⟩ => ⟨S1x32x2048x128, .f32⟩
  | .hbm, ⟨13, _⟩ => ⟨S1x8x4x2048x128, .f32⟩
  | .hbm, ⟨14, _⟩ => ⟨S1x32x2048x128, .f32⟩
  | .hbm, ⟨15, _⟩ => ⟨S1x32x16x128x128, .f32⟩
  | .hbm, ⟨16, _⟩ => ⟨S_, .f32⟩
  | .hbm, ⟨17, _⟩ => ⟨S1x32x16x128, .f32⟩
  | .hbm, ⟨18, _⟩ => ⟨S_, .f32⟩
  | .hbm, ⟨19, _⟩ => ⟨S1x32x16x128, .f32⟩
  | .hbm, ⟨20, _⟩ => ⟨S1x32x16x128, .f32⟩
  | .hbm, ⟨21, _⟩ => ⟨S1x32x16x128x128, .f32⟩
  | .hbm, ⟨22, _⟩ => ⟨S_, .f32⟩
  | .hbm, ⟨23, _⟩ => ⟨S1x32x16x128, .f32⟩
  | .hbm, ⟨24, _⟩ => ⟨S_, .f32⟩
  | .hbm, ⟨25, _⟩ => ⟨S1x32x16x128, .f32⟩
  | .hbm, ⟨26, _⟩ => ⟨S1x32x16x128, .f32⟩
  | .hbm, ⟨27, _⟩ => ⟨S1x32x16x64, .f32⟩
  | .hbm, ⟨28, _⟩ => ⟨S1x32x16x64, .f32⟩
  | .hbm, ⟨29, _⟩ => ⟨S1x32x16x16, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x32x16x16, .f32⟩
  | .hbm, ⟨34, _⟩ => ⟨S1x32x16x16, .f32⟩
  | .hbm, ⟨35, _⟩ => ⟨S1x32x16x16, .f32⟩
  | .hbm, ⟨36, _⟩ => ⟨S1x32x16x16, .f32⟩
  | .hbm, ⟨37, _⟩ => ⟨S_, .f32⟩
  | .hbm, ⟨38, _⟩ => ⟨S1x32x16x16, .f32⟩
  | .hbm, ⟨39, _⟩ => ⟨S1x32x16x16, .f32⟩
  | .hbm, ⟨40, _⟩ => ⟨S_, .f32⟩
  | .hbm, ⟨41, _⟩ => ⟨S1x32x16x16, .f32⟩
  | .hbm, ⟨42, _⟩ => ⟨S1x32x16x16, .f32⟩
  | .hbm, ⟨43, _⟩ => ⟨S_, .f32⟩
  | .hbm, ⟨44, _⟩ => ⟨S1x32x16x16, .f32⟩
  | .hbm, ⟨45, _⟩ => ⟨S1x32x16x16, .i1⟩
  | .hbm, ⟨46, _⟩ => ⟨S16x16, .i32⟩
  | .hbm, ⟨47, _⟩ => ⟨S16x16, .i32⟩
  | .hbm, ⟨48, _⟩ => ⟨S_, .i32⟩
  | .hbm, ⟨49, _⟩ => ⟨S16x16, .i32⟩
  | .hbm, ⟨50, _⟩ => ⟨S16x16, .i32⟩
  | .hbm, ⟨51, _⟩ => ⟨S16x16, .i1⟩
  | .hbm, ⟨52, _⟩ => ⟨S1x1x16x16, .i1⟩
  | .hbm, ⟨53, _⟩ => ⟨S1x32x16x16, .i1⟩
  | .hbm, ⟨54, _⟩ => ⟨S1x32x16x16, .i1⟩
  | .hbm, ⟨55, _⟩ => ⟨S1x32x16x128x16, .i1⟩
  | .hbm, ⟨56, _⟩ => ⟨S1x32x2048x16, .i1⟩
  | .hbm, ⟨57, _⟩ => ⟨S1x32x2048x16x128, .i1⟩
  | .hbm, ⟨58, _⟩ => ⟨S1x32x2048x2048, .i1⟩
  | .hbm, ⟨59, _⟩ => ⟨S_, .i1⟩
  | .hbm, ⟨60, _⟩ => ⟨S2048x2048, .i1⟩
  | .hbm, ⟨61, _⟩ => ⟨S2048x2048, .i32⟩
  | .hbm, ⟨62, _⟩ => ⟨S_, .i32⟩
  | .hbm, ⟨63, _⟩ => ⟨S2048x2048, .i32⟩
  | .hbm, ⟨64, _⟩ => ⟨S2048x2048, .i32⟩
  | .hbm, ⟨65, _⟩ => ⟨S2048x2048, .i32⟩
  | .hbm, ⟨66, _⟩ => ⟨S2048x2048, .i1⟩
  | .hbm, ⟨67, _⟩ => ⟨S_, .i1⟩
  | .hbm, ⟨68, _⟩ => ⟨S2048x2048, .i1⟩
  | .hbm, ⟨69, _⟩ => ⟨S2048x2048, .i1⟩
  | .hbm, ⟨70, _⟩ => ⟨S1x1x2048x2048, .i1⟩
  | .hbm, ⟨71, _⟩ => ⟨S1x32x2048x2048, .i1⟩
  | .hbm, ⟨72, _⟩ => ⟨S1x32x2048x2048, .i1⟩
  | .hbm, ⟨73, _⟩ => ⟨S1x32x2048x2048, .f32⟩
  | .hbm, ⟨74, _⟩ => ⟨S_, .f32⟩
  | .hbm, ⟨75, _⟩ => ⟨S1x32x2048x2048, .f32⟩
  | .hbm, ⟨76, _⟩ => ⟨S1x32x2048x2048, .f32⟩
  | .hbm, ⟨77, _⟩ => ⟨S_, .f32⟩
  | .hbm, ⟨78, _⟩ => ⟨S_, .f32⟩
  | .hbm, ⟨79, _⟩ => ⟨S1x32x2048x2048, .f32⟩
  | .hbm, ⟨80, _⟩ => ⟨S1x32x2048x2048, .f32⟩
  | .hbm, ⟨81, _⟩ => ⟨S_, .f32⟩
  | .hbm, ⟨82, _⟩ => ⟨S1x32x2048, .f32⟩
  | .hbm, ⟨83, _⟩ => ⟨S_, .f32⟩
  | .hbm, ⟨84, _⟩ => ⟨S1x32x2048, .f32⟩
  | .hbm, ⟨85, _⟩ => ⟨S1x32x2048, .f32⟩
  | .hbm, ⟨86, _⟩ => ⟨S1x32x2048x1, .f32⟩
  | .hbm, ⟨87, _⟩ => ⟨S1x32x2048x2048, .f32⟩
  | .hbm, ⟨88, _⟩ => ⟨S1x32x2048x2048, .f32⟩
  | .hbm, ⟨89, _⟩ => ⟨S1x32x2048x2048, .f32⟩
  | .hbm, ⟨90, _⟩ => ⟨S_, .f32⟩
  | .hbm, ⟨91, _⟩ => ⟨S1x32x2048, .f32⟩
  | .hbm, ⟨92, _⟩ => ⟨S1x32x2048x1, .f32⟩
  | .hbm, ⟨93, _⟩ => ⟨S1x32x2048x2048, .f32⟩
  | .hbm, ⟨94, _⟩ => ⟨S1x32x2048x2048, .f32⟩
  | .hbm, ⟨95, _⟩ => ⟨S1x32x2048x128, .f32⟩
  | .hbm, ⟨96, _⟩ => ⟨S1x2048x32x128, .f32⟩
  | .hbm, ⟨97, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_0 : Ref sig .tc := ⟨.hbm, 67, rfl⟩
abbrev main_call0_v5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_call1_v0 : Ref sig .tc := ⟨.hbm, 78, rfl⟩
abbrev main_call1_v1 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Proof.GateBody.lean ====
/-
  What the gate kernel writes: the block mask of every head, at an index.
-/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Gate

open Idealize.ShloMosaic Idealize.ShloMosaic.TcCoe
open Cert.KernelIdeal Cert.KernelIdeal.Gen
open scoped BigOperators

/-- The gate's logit of head `h`, query block `n` and key block `m`, from the block means and the two projections. -/
def logit (x0 x1 : Vec Ideal S32x16x128 .f32) (x2 x3 : Vec Ideal S128x64 .f32) (h : Fin 32) (n m : Fin 16) : EReal :=
  ∑ g : Fin 64, (∑ d : Fin 128, x0 (ix3 h n d) * x2 (ix2 d g)) * (∑ d : Fin 128, x1 (ix3 h m d) * x3 (ix2 d g))

/-- Whether key block `m` is attended from query block `n` by head `h`: the gate's probability exceeds a half, or the block is on
    the diagonal. -/
def Active (x0 x1 : Vec Ideal S32x16x128 .f32) (x2 x3 : Vec Ideal S128x64 .f32) (h : Fin 32) (n m : Fin 16) : Prop :=
  Ideal.ofBits FTy.f32 0x3F000000#32 < Ideal.logistic (logit x0 x1 x2 x3 h n m * Ideal.ofBits FTy.f32 0x3E000000#32) ∨ n = m

open Classical in
/-- The block mask's entry: zero where the block is attended, minus infinity elsewhere. -/
def bias (x0 x1 : Vec Ideal S32x16x128 .f32) (x2 x3 : Vec Ideal S128x64 .f32) (h : Fin 32) (n m : Fin 16) : EReal :=
  if Active x0 x1 x2 x3 h n m then 0 else ⊥

/-- Two block numbers agree as words exactly where they agree. -/
theorem eq_word : ∀ n m : Fin 16, IntOp.cmpi CmpIPredicate.eq (BitVec.ofNat 32 n.val) (BitVec.ofNat 32 m.val) = BitVec.ofBool (decide (n = m)) := by
  decide +kernel

/-- The disjunction of two flags. -/
theorem or_flag (p q : Bool) : IntOp.ori (BitVec.ofBool p) (BitVec.ofBool q) = 1 ↔ p = true ∨ q = true := by
  revert p q; decide

/-- The mask one head's stretch of the kernel stores. -/
theorem head_apply (x0 x1 : Vec Ideal S32x16x128 .f32) (x2 x3 : Vec Ideal S128x64 .f32) (a b : ℕ) (ha : a < 8) (hb : b < 4) (inb) (n m : Fin 16) :
    k0_pay5 (F := Ideal) x2 x3 (View.ld x0 (Rect.unit (s := S32x16x128) ![4 * a + b, 0, 0] S1x16x128.size inb))
        (View.ld x1 (Rect.unit (s := S32x16x128) ![4 * a + b, 0, 0] S1x16x128.size inb)) (ix4 n 0 0 m)
      = bias x0 x1 x2 x3 ⟨4 * a + b, by omega⟩ n m := by
  unfold_payloads
  simp only [View.ld_unit]
  pointwise [dot_S16x128_S128x64_S16x64_1_0_0_1_n_n, dot_S16x64_S16x64_S16x16_1_1_0_0_n_n]
  rw [eq_word]
  have h := (or_flag _ _).trans (or_congr (decide_eq_true_iff (p := Ideal.ofBits FTy.f32 0x3F000000#32
    < Ideal.logistic (logit x0 x1 x2 x3 ⟨4 * a + b, by omega⟩ n m * Ideal.ofBits FTy.f32 0x3E000000#32))) (decide_eq_true_iff (p := n = m)))
  unfold bias
  by_cases hA : Active x0 x1 x2 x3 ⟨4 * a + b, by omega⟩ n m
  · rw [if_pos hA]
    exact if_pos (h.mpr hA)
  · rw [if_neg hA]
    exact if_neg fun hc => hA (h.mp hc)

/-- A head's store, against the whole mask. -/
theorem piece_apply (x0 x1 : Vec Ideal S32x16x128 .f32) (x2 x3 : Vec Ideal S128x64 .f32) (a b : ℕ) (ha : a < 8) (hb : b < 4) (inb) (inb')
    (x : S16x1x1x16.Idx) :
    k0_pay5 (F := Ideal) x2 x3 (View.ld x0 (Rect.unit (s := S32x16x128) ![4 * a + b, 0, 0] S1x16x128.size inb))
        (View.ld x1 (Rect.unit (s := S32x16x128) ![4 * a + b, 0, 0] S1x16x128.size inb)) x
      = (fun y : S16x8x4x16.Idx => bias x0 x1 x2 x3 ⟨4 * (y 1).val + (y 2).val, by
          have h1 : (y 1).val < 8 := (y 1).isLt
          have h2 : (y 2).val < 4 := (y 2).isLt
          omega⟩ (y 0) (y 3)) ((Rect.unit (s := S16x8x4x16) ![0, a, b, 0] S16x1x1x16.size inb').emb x) := by
  obtain ⟨n, m, rfl⟩ : ∃ (n m : Fin 16), x = ix4 n 0 0 m :=
    ⟨x 0, x 3, (eq_ix4 x).trans (congrArg₂ (fun u v : Fin 1 => ix4 (x 0) u v (x 3)) (Subsingleton.elim (α := Fin 1) _ _) (Subsingleton.elim (α := Fin 1) _ _))⟩
  refine (head_apply x0 x1 x2 x3 a b ha hb inb n m).trans ?_
  refine congr (congr (congrArg (bias x0 x1 x2 x3) (Fin.ext ?_)) (Fin.ext ?_)) (Fin.ext ?_)
  · show 4 * a + b = 4 * (a + 1 * 0) + (b + 1 * 0); omega
  · show n.val = 0 + 1 * n.val; omega
  · show m.val = 0 + 1 * m.val; omega

/-- The mask the kernel writes, at an index. -/
theorem out_apply (x0 x1 : Vec Ideal S32x16x128 .f32) (x2 x3 : Vec Ideal S128x64 .f32) (n : Fin 16) (a : Fin 8) (b : Fin 4) (m : Fin 16) :
    out0_4 (F := Ideal) x0 x1 x2 x3 (ix4 n a b m) = bias x0 x1 x2 x3 ⟨4 * a.val + b.val, by omega⟩ n m := by
  have e : ∀ x : Vec Ideal S128x64 .f32, View.ld x r0_0 = x := fun x => View.ld_unit_zero (S := S128x64) (by funext a; fin_cases a <;> rfl) _ x
  have key : out0_4 (F := Ideal) x0 x1 x2 x3 (ix4 n a b m)
      = bias x0 x1 (View.ld x2 r0_0) (View.ld x3 r0_0) ⟨4 * a.val + b.val, by omega⟩ n m := by
    unfold out0_4
    refine View.canon_apply_of_pieces (Val := Elt Ideal) (e := .f32) (fun y : S16x8x4x16.Idx => bias x0 x1 (View.ld x2 r0_0) (View.ld x3 r0_0)
      ⟨4 * (y 1).val + (y 2).val, by
          have h1 : (y 1).val < 8 := (y 1).isLt
          have h2 : (y 2).val < 4 := (y 2).isLt
          omega⟩ (y 0) (y 3)) _ ?_ _ (cover0_4 _ _ _ _ _ _ _ _ _ _ _ _ _ _ _ _ _ _ _ _ _ _ _ _ _ _ _ _ _ _ _ _ _)
    have p := fun a b ha hb inb inb' x => piece_apply x0 x1 (View.ld x2 r0_0) (View.ld x3 r0_0) a b ha hb inb inb' x
    refine List.forall_mem_cons.2 ⟨fun x => (p 7 3 (by decide) (by decide) _ inb_S16x8x4x16_S16x1x1x16_0_7_3_0 x), ?_⟩
    refine List.forall_mem_cons.2 ⟨fun x => (p 7 2 (by decide) (by decide) _ inb_S16x8x4x16_S16x1x1x16_0_7_2_0 x), ?_⟩
    refine List.forall_mem_cons.2 ⟨fun x => (p 7 1 (by decide) (by decide) _ inb_S16x8x4x16_S16x1x1x16_0_7_1_0 x), ?_⟩
    refine List.forall_mem_cons.2 ⟨fun x => (p 7 0 (by decide) (by decide) _ inb_S16x8x4x16_S16x1x1x16_0_7_0_0 x), ?_⟩
    refine List.forall_mem_cons.2 ⟨fun x => (p 6 3 (by decide) (by decide) _ inb_S16x8x4x16_S16x1x1x16_0_6_3_0 x), ?_⟩
    refine List.forall_mem_cons.2 ⟨fun x => (p 6 2 (by decide) (by decide) _ inb_S16x8x4x16_S16x1x1x16_0_6_2_0 x), ?_⟩
    refine List.forall_mem_cons.2 ⟨fun x => (p 6 1 (by decide) (by decide) _ inb_S16x8x4x16_S16x1x1x16_0_6_1_0 x), ?_⟩
    refine List.forall_mem_cons.2 ⟨fun x => (p 6 0 (by decide) (by decide) _ inb_S16x8x4x16_S16x1x1x16_0_6_0_0 x), ?_⟩
    refine List.forall_mem_cons.2 ⟨fun x => (p 5 3 (by decide) (by decide) _ inb_S16x8x4x16_S16x1x1x16_0_5_3_0 x), ?_⟩
    refine List.forall_mem_cons.2 ⟨fun x => (p 5 2 (by decide) (by decide) _ inb_S16x8x4x16_S16x1x1x16_0_5_2_0 x), ?_⟩
    refine List.forall_mem_cons.2 ⟨fun x => (p 5 1 (by decide) (by decide) _ inb_S16x8x4x16_S16x1x1x16_0_5_1_0 x), ?_⟩
    refine List.forall_mem_cons.2 ⟨fun x => (p 5 0 (by decide) (by decide) _ inb_S16x8x4x16_S16x1x1x16_0_5_0_0 x), ?_⟩
    refine List.forall_mem_cons.2 ⟨fun x => (p 4 3 (by decide) (by decide) _ inb_S16x8x4x16_S16x1x1x16_0_4_3_0 x), ?_⟩
    refine List.forall_mem_cons.2 ⟨fun x => (p 4 2 (by decide) (by decide) _ inb_S16x8x4x16_S16x1x1x16_0_4_2_0 x), ?_⟩
    refine List.forall_mem_cons.2 ⟨fun x => (p 4 1 (by decide) (by decide) _ inb_S16x8x4x16_S16x1x1x16_0_4_1_0 x), ?_⟩
    refine List.forall_mem_cons.2 ⟨fun x => (p 4 0 (by decide) (by decide) _ inb_S16x8x4x16_S16x1x1x16_0_4_0_0 x), ?_⟩
    refine List.forall_mem_cons.2 ⟨fun x => (p 3 3 (by decide) (by decide) _ inb_S16x8x4x16_S16x1x1x16_0_3_3_0 x), ?_⟩
    refine List.forall_mem_cons.2 ⟨fun x => (p 3 2 (by decide) (by decide) _ inb_S16x8x4x16_S16x1x1x16_0_3_2_0 x), ?_⟩
    refine List.forall_mem_cons.2 ⟨fun x => (p 3 1 (by decide) (by decide) _ inb_S16x8x4x16_S16x1x1x16_0_3_1_0 x), ?_⟩
    refine List.forall_mem_cons.2 ⟨fun x => (p 3 0 (by decide) (by decide) _ inb_S16x8x4x16_S16x1x1x16_0_3_0_0 x), ?_⟩
    refine List.forall_mem_cons.2 ⟨fun x => (p 2 3 (by decide) (by decide) _ inb_S16x8x4x16_S16x1x1x16_0_2_3_0 x), ?_⟩
    refine List.forall_mem_cons.2 ⟨fun x => (p 2 2 (by decide) (by decide) _ inb_S16x8x4x16_S16x1x1x16_0_2_2_0 x), ?_⟩
    refine List.forall_mem_cons.2 ⟨fun x => (p 2 1 (by decide) (by decide) _ inb_S16x8x4x16_S16x1x1x16_0_2_1_0 x), ?_⟩
    refine List.forall_mem_cons.2 ⟨fun x => (p 2 0 (by decide) (by decide) _ inb_S16x8x4x16_S16x1x1x16_0_2_0_0 x), ?_⟩
    refine List.forall_mem_cons.2 ⟨fun x => (p 1 3 (by decide) (by decide) _ inb_S16x8x4x16_S16x1x1x16_0_1_3_0 x), ?_⟩
    refine List.forall_mem_cons.2 ⟨fun x => (p 1 2 (by decide) (by decide) _ inb_S16x8x4x16_S16x1x1x16_0_1_2_0 x), ?_⟩
    refine List.forall_mem_cons.2 ⟨fun x => (p 1 1 (by decide) (by decide) _ inb_S16x8x4x16_S16x1x1x16_0_1_1_0 x), ?_⟩
    refine List.forall_mem_cons.2 ⟨fun x => (p 1 0 (by decide) (by decide) _ inb_S16x8x4x16_S16x1x1x16_0_1_0_0 x), ?_⟩
    refine List.forall_mem_cons.2 ⟨fun x => (p 0 3 (by decide) (by decide) _ inb_S16x8x4x16_S16x1x1x16_0_0_3_0 x), ?_⟩
    refine List.forall_mem_cons.2 ⟨fun x => (p 0 2 (by decide) (by decide) _ inb_S16x8x4x16_S16x1x1x16_0_0_2_0 x), ?_⟩
    refine List.forall_mem_cons.2 ⟨fun x => (p 0 1 (by decide) (by decide) _ inb_S16x8x4x16_S16x1x1x16_0_0_1_0 x), ?_⟩
    refine List.forall_mem_cons.2 ⟨fun x => (p 0 0 (by decide) (by decide) _ inb_S16x8x4x16_S16x1x1x16_0_0_0_0 x), ?_⟩
    exact fun q hq => absurd hq List.not_mem_nil
  rwa [e, e] at key

end Cert.KernelIdeal.Gate

end
-- ==== Proof.GateArray.lean ====
/-
  The gate region's result array: the block mask of every head, query block and key block.
-/
module

public import proofs.«01_k».proof.Proof.GateBody
public import Idealize.ShloMosaic.Lib.Pipeline.ValueKit.Geometry

@[expose] public section

set_option maxRecDepth 16384

noncomputable section

namespace Cert.KernelIdeal.Gate

open Idealize.ShloMosaic Idealize.ShloMosaic.TcCoe
open Cert.KernelIdeal Cert.KernelIdeal.Gen

variable (V : (c : Dev nD) → (b : Ref sig .tc) → Buf (Elt Ideal) ((c : Thread nD τ).loc b))

/-- The gate's one grid point reads and writes each array whole. -/
theorem index0 : ∀ t : Fin cfg0.N, win0_0.index t = ![0, 0, 0] ∧ win0_1.index t = ![0, 0, 0] ∧ win0_2.index t = ![0, 0]
    ∧ win0_3.index t = ![0, 0] ∧ win0_4.index t = ![0, 0, 0, 0] := by
  decide +kernel

/-- The region's one point reads the whole array of query block means. -/
theorem read_0 (c : Dev nD) (t : Fin cfg0.N) : iblk0 V c 0 t = V c main_v10 := by
  funext y
  blk_simp [iblk0]
  refine congrArg (V c main_v10) ?_
  blk_ext [(index0 t).1]

/-- It reads the whole array of key block means. -/
theorem read_1 (c : Dev nD) (t : Fin cfg0.N) : iblk0 V c 1 t = V c main_v15 := by
  funext y
  blk_simp [iblk0]
  refine congrArg (V c main_v15) ?_
  blk_ext [(index0 t).2.1]

/-- It reads the whole query projection. -/
theorem read_2 (c : Dev nD) (t : Fin cfg0.N) : iblk0 V c 2 t = V c main_arg3 := by
  funext y
  blk_simp [iblk0]
  refine congrArg (V c main_arg3) ?_
  blk_ext [(index0 t).2.2.1]

/-- It reads the whole key projection. -/
theorem read_3 (c : Dev nD) (t : Fin cfg0.N) : iblk0 V c 3 t = V c main_arg4 := by
  funext y
  blk_simp [iblk0]
  refine congrArg (V c main_arg4) ?_
  blk_ext [(index0 t).2.2.2.1]

/-- The mask array: query block, key head, head within its group, key block. -/
def mask (c : Dev nD) : Buf (Elt Ideal) ((c : Thread nD τ).loc main_v16) := fun (i : S16x8x4x16.Idx) =>
  bias (V c main_v10) (V c main_v15) (V c main_arg3) (V c main_arg4)
    ⟨4 * (i 1).val + (i 2).val, by have := (i 1).isLt; have := (i 2).isLt; simp at *; omega⟩ (i 0) (i 3)

/-- The gate region leaves the mask in its result array. -/
theorem arr_eq (c : Dev nD) : (dat0 V c).arrAt 4 cfg0.N = mask V c := by
  refine (dat0 V c).arrAt_eq_of_covers 4 _ (by decide +kernel) fun t _ y => ?_
  blk_simp
  rw [after0_4, read_0, read_1, read_2, read_3]
  have e : (win0_4.blk t).view.emb y = y := by blk_ext [(index0 t).2.2.2.2]
  rw [e]
  refine (congrArg _ (eq_ix4 y)).trans ((out_apply _ _ _ _ (y 0) (y 1) (y 2) (y 3)).trans ?_)
  rfl

end Cert.KernelIdeal.Gate

end
-- ==== Proof.Words.lean ====
/-
  The integer words of the kernel, on the numbers they are used at: quotients by 128 and by 4 rounded down, the trip count
  of the loop over full chunks, one-hot tests, and the causal comparison.
-/
module

public import proofs.«01_k».proof.Proof.Gen.KernelIdeal
public import Idealize.ShloMosaic.Lib.Pointwise
public import Idealize.ShloMosaic.Lib.WordArith

@[expose] public section

noncomputable section

namespace Cert.KernelIdeal.Words

open Idealize.ShloMosaic
open Cert.KernelIdeal

/-- A lane number below 512 divided by 128 and rounded down, as the kernel spells it: the truncated quotient, less one where the
    signs differ and the remainder is not zero. -/
abbrev div128 (c : BitVec 32) : BitVec 32 :=
  Scalar.select
    (IntOp.andi
      (IntOp.cmpi CmpIPredicate.ne
        (IntOp.subi (BitVec.setWidth 32 (IntOp.cmpi CmpIPredicate.sgt c 0#32)) (BitVec.setWidth 32 (IntOp.cmpi CmpIPredicate.slt c 0#32)))
        (Scalar.subi (Scalar.extui (Scalar.cmpi CmpIPredicate.sgt 128#32 0#32)) (Scalar.extui (Scalar.cmpi CmpIPredicate.slt 128#32 0#32))))
      (IntOp.cmpi CmpIPredicate.ne (IntOp.remsi ArithUnit.vector c 128#32) 0#32))
    (IntOp.subi (IntOp.divsi ArithUnit.vector c 128#32) 1#32)
    (IntOp.divsi ArithUnit.vector c 128#32)

/-- The query block's number divided by 4 and rounded down, as the kernel spells it: the number of full chunks before its own. -/
abbrev div4 (n : BitVec 32) : BitVec 32 :=
  Scalar.select
    (Scalar.andi
      (Scalar.cmpi CmpIPredicate.ne
        (Scalar.subi (Scalar.extui (Scalar.cmpi CmpIPredicate.sgt n 0#32)) (Scalar.extui (Scalar.cmpi CmpIPredicate.slt n 0#32)))
        (Scalar.subi (Scalar.extui (Scalar.cmpi CmpIPredicate.sgt 4#32 0#32)) (Scalar.extui (Scalar.cmpi CmpIPredicate.slt 4#32 0#32))))
      (Scalar.cmpi CmpIPredicate.ne (Scalar.remsi n 4#32) 0#32))
    (Scalar.subi (Scalar.divsi n 4#32) 1#32)
    (Scalar.divsi n 4#32)

/-- The floor division by 128, on a column of a chunk. -/
theorem div128_eq : ∀ c : Fin 512, div128 (BitVec.ofNat 32 c.val) = BitVec.ofNat 32 (c.val / 128) := by decide +kernel

/-- The floor division by 4, on a block number. -/
theorem div4_eq : ∀ n : Fin 16, div4 (BitVec.ofNat 32 n.val) = BitVec.ofNat 32 (n.val / 4) := by decide +kernel

/-- The loop over full chunks makes as many trips as there are full chunks before the query block's own. -/
theorem trips_full (i : grid1.Coords) : (k1_t1_loop i).trips = (i 1).val / 4 :=
  (by decide +kernel : ∀ n : Fin 16, Scf.trips 0#32 (Scalar.addi 0#32 (Scalar.muli (Scalar.divsi (Scalar.subi (div4 (BitVec.ofNat 32 n.val)) 0#32) 1#32) 1#32)) 1#32 = n.val / 4) (i 1)

/-- The second loop makes no trip. -/
theorem trips_rest (i : grid1.Coords) : (k1_t2_loop i).trips = 0 :=
  (by decide +kernel : ∀ n : Fin 16, Scf.trips (Scalar.addi 0#32 (Scalar.muli (Scalar.divsi (Scalar.subi (div4 (BitVec.ofNat 32 n.val)) 0#32) 1#32) 1#32))
    (Scalar.addi 0#32 (Scalar.subi (div4 (BitVec.ofNat 32 n.val)) 0#32)) 1#32 = 0) (i 1)

/-- The loop's induction word at a trip is the trip's number. -/
theorem iv_eq (k : ℕ) : Scf.iv 0#32 1#32 k = BitVec.ofNat 32 k := by
  simp [Scf.iv]

/-- The row offset of chunk `k`. -/
theorem off_chunk (i : grid1.Coords) (k : Fin (k1_t1_loop i).trips) : k1_off1 i k = ![512 * k.val, 0] := by
  have hk : k.val < 4 := by have h1 := k.isLt; have h2 := trips_full i; have h3 : (i 1).val < 16 := (i 1).isLt; omega
  have := (by decide +kernel : ∀ k : Fin 4, (Scalar.indexCast (Scalar.muli (BitVec.ofNat 32 k.val) 512#32)).toNat = 512 * k.val) ⟨k.val, hk⟩
  unfold k1_off1
  dsimp only
  rw [iv_eq, this]

/-- The row offset of the query block's own chunk. -/
theorem off_last (i : grid1.Coords) : k1_off3 i = ![512 * ((i 1).val / 4), 0] :=
  congrArg (fun o : ℕ => (![o, 0] : Fin 2 → ℕ))
    ((by decide +kernel : ∀ n : Fin 16, (Scalar.indexCast (Scalar.muli (div4 (BitVec.ofNat 32 n.val)) 512#32)).toNat = 512 * (n.val / 4)) (i 1))

/-- A test read as a number is one where it holds and zero elsewhere. -/
theorem test_value (b : BitVec 1) : (FloatOps.sitofp (F := Ideal) FTy.f32 (BitVec.setWidth 32 b) : EReal) = if b = 1 then 1 else 0 := by
  have h : b = 0#1 ∨ b = 1#1 := by revert b; decide
  show (((BitVec.setWidth 32 b).toInt : ℝ) : EReal) = _
  rcases h with rfl | rfl <;> simp

/-- The row mask: row `r` belongs to head `r / 128`. -/
theorem head_test : ∀ (r : Fin 512) (e : Fin 4),
    IntOp.cmpi CmpIPredicate.eq (div128 (BitVec.ofNat 32 r.val)) (BitVec.ofNat 32 e.val) = 1 ↔ e.val = r.val / 128 := by decide +kernel

/-- The column mask: column `c` of chunk `ch` belongs to key block `c / 128 + 4 * ch`. -/
theorem block_test (x : Fin 16) (c : Fin 512) (ch : Fin 4) :
    IntOp.cmpi CmpIPredicate.eq (BitVec.ofNat 32 x.val) (IntOp.addi (div128 (BitVec.ofNat 32 c.val)) (Scalar.muli 4#32 (BitVec.ofNat 32 ch.val))) = 1
      ↔ x.val = c.val / 128 + 4 * ch.val := by
  rw [div128_eq]
  exact (by decide +kernel : ∀ (x : Fin 16) (b : Fin 4) (ch : Fin 4),
    IntOp.cmpi CmpIPredicate.eq (BitVec.ofNat 32 x.val) (IntOp.addi (BitVec.ofNat 32 b.val) (Scalar.muli 4#32 (BitVec.ofNat 32 ch.val))) = 1
      ↔ x.val = b.val + 4 * ch.val) x ⟨c.val / 128, by omega⟩ ch

/-- The causal test at row `r` of query block `n` and column `c` of chunk `ch`. -/
theorem causal_test (n : Fin 16) (ch : Fin 4) (r c : Fin 512) :
    IntOp.cmpi CmpIPredicate.sge (IntOp.addi (Scalar.muli (BitVec.ofNat 32 n.val) 128#32) (IntOp.andi (BitVec.ofNat 32 r.val) 127#32))
        (IntOp.addi (Scalar.muli (BitVec.ofNat 32 ch.val) 512#32) (BitVec.ofNat 32 c.val)) = 1
      ↔ 512 * ch.val + c.val ≤ n.val * 128 + r.val % 128 := by
  have e1 : IntOp.andi (BitVec.ofNat 32 r.val) 127#32 = BitVec.ofNat 32 (r.val % 128) :=
    (by decide +kernel : ∀ r : Fin 512, IntOp.andi (BitVec.ofNat 32 r.val) 127#32 = BitVec.ofNat 32 (r.val % 128)) r
  have e2 : Scalar.muli (BitVec.ofNat 32 n.val) 128#32 = BitVec.ofNat 32 (n.val * 128) :=
    (by decide +kernel : ∀ n : Fin 16, Scalar.muli (BitVec.ofNat 32 n.val) 128#32 = BitVec.ofNat 32 (n.val * 128)) n
  have e3 : Scalar.muli (BitVec.ofNat 32 ch.val) 512#32 = BitVec.ofNat 32 (512 * ch.val) :=
    (by decide +kernel : ∀ n : Fin 4, Scalar.muli (BitVec.ofNat 32 n.val) 512#32 = BitVec.ofNat 32 (512 * n.val)) ch
  have a (x y : ℕ) : IntOp.addi (BitVec.ofNat 32 x) (BitVec.ofNat 32 y) = BitVec.ofNat 32 (x + y) := (BitVec.ofNat_add x y).symm
  rw [e1, e2, e3, a, a]
  unfold IntOp.cmpi
  rw [WordArith.ofBool_eq_numeral_one_iff]
  simp only [BitVec.sle, decide_eq_true_eq]
  have hn := n.isLt; have hr := r.isLt; have hc := c.isLt; have hch := ch.isLt
  rw [WordArith.toInt_ofNat_small _ (by omega), WordArith.toInt_ofNat_small _ (by omega)]
  omega

/-- The f32 word of minus infinity. -/
theorem neg_inf : Ideal.ofBits FTy.f32 0xFF800000#32 = ⊥ := by simp [Ideal.ofBits, Ideal.ieee]

end Cert.KernelIdeal.Words

end
-- ==== Proof.OnlineSoftmax.lean ====
/-
  A softmax-weighted sum accumulated chunk by chunk is the softmax-weighted sum taken at once, over the extended reals.

  A row has scores `s j` and values `v j` at positions `j`. The running state after the first `n` positions is the
  maximum score, the sum of `exp (s j - m)` and the sum of `exp (s j - m) * v j`, both shifted by that maximum `m`.
  `rescale` says that multiplying by `exp (m - m')` moves the shift from `m` to `m'`; `add_chunk` appends a chunk;
  `quotient_eq` divides the two sums and drops the positions whose score is minus infinity.
-/
module

public import Idealize.ShloMosaic.Lib.Pointwise

@[expose] public section

noncomputable section

namespace Cert.Proof.Softmax

open Idealize.ShloMosaic
open scoped BigOperators

/-! ## The exponential at differences -/

/-- The exponential of minus infinity is zero. -/
theorem exp_bot : Ideal.exp ⊥ = 0 := rfl
/-- The exponential of a real number is the real exponential. -/
theorem exp_coe (r : ℝ) : Ideal.exp (r : EReal) = (Real.exp r : EReal) := rfl

/-- The exponential is never negative. -/
theorem exp_nonneg (x : EReal) : 0 ≤ Ideal.exp x := by
  induction x using EReal.rec with
  | bot => exact le_of_eq exp_bot.symm
  | coe r => rw [exp_coe]; exact EReal.coe_nonneg.mpr (Real.exp_pos r).le
  | top => exact le_top

/-- Below plus infinity the exponential is below plus infinity. -/
theorem exp_ne_top {x : EReal} (h : x ≠ ⊤) : Ideal.exp x ≠ ⊤ := by
  induction x using EReal.rec with
  | bot => rw [exp_bot]; exact EReal.zero_ne_top
  | coe r => rw [exp_coe]; exact EReal.coe_ne_top _
  | top => exact absurd rfl h

/-- A score that is not above the shift, less the shift, is below plus infinity. -/
theorem sub_ne_top {a m : EReal} (h : a ≤ m) (hm : m ≠ ⊤) : a - m ≠ ⊤ := by
  induction m using EReal.rec with
  | bot => rw [le_bot_iff.mp h]; simp
  | coe r =>
    induction a using EReal.rec with
    | bot => simp
    | coe b => rw [← EReal.coe_sub]; exact EReal.coe_ne_top _
    | top => exact absurd h (by simp)
  | top => exact absurd rfl hm

/-- Minus infinity less anything has exponential zero. -/
theorem exp_bot_sub (m : EReal) : Ideal.exp (⊥ - m) = 0 := by
  rw [sub_eq_add_neg, EReal.bot_add, exp_bot]

/-- Moving the shift of one exponential. -/
theorem exp_shift {a m m' : EReal} (h : a ≤ m) (h' : m ≤ m') (ht : m' ≠ ⊤) :
    Ideal.exp (m - m') * Ideal.exp (a - m) = Ideal.exp (a - m') := by
  induction a using EReal.rec with
  | bot => rw [exp_bot_sub, exp_bot_sub, mul_zero]
  | top => exact absurd (le_antisymm le_top (h.trans h')) (fun e => ht (by rw [← e]))
  | coe a =>
    induction m using EReal.rec with
    | bot => exact absurd h (by simp)
    | top => exact absurd (le_antisymm le_top h') ht
    | coe m =>
      induction m' using EReal.rec with
      | bot => exact absurd h' (by simp)
      | top => exact absurd rfl ht
      | coe m' =>
        rw [← EReal.coe_sub, ← EReal.coe_sub, ← EReal.coe_sub, exp_coe, exp_coe, exp_coe, ← EReal.coe_mul, ← Real.exp_add]
        congr 2; ring

/-- A nonnegative finite factor goes into a sum. -/
theorem mul_sum {ι : Type} (S : Finset ι) {c : EReal} (h0 : 0 ≤ c) (ht : c ≠ ⊤) (f : ι → EReal) :
    c * ∑ i ∈ S, f i = ∑ i ∈ S, c * f i := by
  classical
  induction S using Finset.induction_on with
  | empty => simp
  | insert a S ha ih =>
    rw [Finset.sum_insert ha, Finset.sum_insert ha, EReal.left_distrib_of_nonneg_of_ne_top h0 ht, ih]

/-! ## The running state -/

/-- The greatest of the first `n` scores. -/
def top (s : ℕ → EReal) (n : ℕ) : EReal := (Finset.range n).sup s
/-- The first `n` weights at shift `m`, summed. -/
def mass (s : ℕ → EReal) (n : ℕ) (m : EReal) : EReal := ∑ j ∈ Finset.range n, Ideal.exp (s j - m)
/-- The first `n` weighted values at shift `m`, summed. -/
def wsum (s v : ℕ → EReal) (n : ℕ) (m : EReal) : EReal := ∑ j ∈ Finset.range n, Ideal.exp (s j - m) * v j

/-- Each score read so far is at most the greatest. -/
theorem le_top_of_lt (s : ℕ → EReal) {n j : ℕ} (h : j < n) : s j ≤ top s n :=
  Finset.le_sup (f := s) (Finset.mem_range.mpr h)

/-- Scores below plus infinity have their maximum below plus infinity. -/
theorem top_ne_top (s : ℕ → EReal) (hs : ∀ j, s j ≠ ⊤) (n : ℕ) : top s n ≠ ⊤ := by
  refine ne_of_lt ?_
  unfold top
  rw [Finset.sup_lt_iff bot_lt_top]
  exact fun j _ => lt_of_le_of_ne le_top (hs j)

/-- A weighted sum taken against one bound, rescaled, is the one taken against a greater bound. -/
theorem wsum_rescale (s v : ℕ → EReal) (n : ℕ) {m m' : EReal} (h : ∀ j < n, s j ≤ m) (h' : m ≤ m') (ht : m' ≠ ⊤) :
    wsum s v n m * Ideal.exp (m - m') = wsum s v n m' := by
  unfold wsum
  rw [mul_comm, mul_sum _ (exp_nonneg _) (exp_ne_top (sub_ne_top h' ht))]
  refine Finset.sum_congr rfl fun j hj => ?_
  rw [← mul_assoc, exp_shift (h j (Finset.mem_range.mp hj)) h' ht]

/-- A weight mass taken against one bound, rescaled, is the one taken against a greater bound. -/
theorem mass_rescale (s : ℕ → EReal) (n : ℕ) {m m' : EReal} (h : ∀ j < n, s j ≤ m) (h' : m ≤ m') (ht : m' ≠ ⊤) :
    mass s n m * Ideal.exp (m - m') = mass s n m' := by
  have := wsum_rescale s (fun _ => 1) n h h' ht
  simpa only [wsum, mass, mul_one] using this

/-- The maximum of a sequence over `Fin n`, folded from minus infinity. -/
theorem fold_eq_top (s : ℕ → EReal) (n : ℕ) : Finset.univ.fold max ⊥ (fun x : Fin n => s x.val) = top s n := by
  show Finset.univ.sup (fun x : Fin n => s x.val) = top s n
  refine le_antisymm (Finset.sup_le fun x _ => le_top_of_lt s x.isLt) (Finset.sup_le fun j hj => ?_)
  exact Finset.le_sup (f := fun x : Fin n => s x.val) (Finset.mem_univ ⟨j, Finset.mem_range.mp hj⟩)

/-- The maximum after a chunk is the greater of the maximum before it and the chunk's own. -/
theorem top_add (s : ℕ → EReal) (n k : ℕ) :
    max (top s n) (Finset.univ.fold max ⊥ (fun x : Fin k => s (n + x.val))) = top s (n + k) := by
  rw [fold_eq_top (fun j => s (n + j)) k]
  refine le_antisymm (max_le ?_ ?_) (Finset.sup_le fun j hj => ?_)
  · exact Finset.sup_mono fun j hj => Finset.mem_range.mpr (by have := Finset.mem_range.mp hj; omega)
  · exact Finset.sup_le fun j hj => le_top_of_lt s (by have := Finset.mem_range.mp hj; omega)
  · have hj' := Finset.mem_range.mp hj
    rcases Nat.lt_or_ge j n with h | h
    · exact le_max_of_le_left (le_top_of_lt s h)
    · refine le_max_of_le_right ?_
      have := le_top_of_lt (fun i => s (n + i)) (n := k) (j := j - n) (by omega)
      rwa [show n + (j - n) = j by omega] at this

/-- The mass of a prefix and the chunk after it is the sum of the two. -/
theorem mass_add (s : ℕ → EReal) (n k : ℕ) (m : EReal) :
    mass s n m + ∑ x : Fin k, Ideal.exp (s (n + x.val) - m) = mass s (n + k) m := by
  unfold mass
  rw [Finset.sum_range_add, Finset.sum_range (f := fun x => Ideal.exp (s (n + x) - m))]

/-- The weighted sum of a prefix and the chunk after it is the sum of the two. -/
theorem wsum_add (s v : ℕ → EReal) (n k : ℕ) (m : EReal) :
    wsum s v n m + ∑ x : Fin k, Ideal.exp (s (n + x.val) - m) * v (n + x.val) = wsum s v (n + k) m := by
  unfold wsum
  rw [Finset.sum_range_add, Finset.sum_range (f := fun x => Ideal.exp (s (n + x) - m) * v (n + x))]

/-! ## One chunk appended -/

/-- One step of the running mass: rescale the old one and add the chunk's. -/
theorem mass_chunk (s : ℕ → EReal) (hs : ∀ j, s j ≠ ⊤) (n k : ℕ) :
    mass s n (top s n) * Ideal.exp (top s n - top s (n + k)) + ∑ x : Fin k, Ideal.exp (s (n + x.val) - top s (n + k))
      = mass s (n + k) (top s (n + k)) := by
  rw [mass_rescale s n (fun j hj => le_top_of_lt s hj) ((le_max_left _ _).trans (top_add s n k).le) (top_ne_top s hs _), mass_add]

/-- One step of the running weighted sum: rescale the old one and add the chunk's. -/
theorem wsum_chunk (s v : ℕ → EReal) (hs : ∀ j, s j ≠ ⊤) (n k : ℕ) :
    wsum s v n (top s n) * Ideal.exp (top s n - top s (n + k))
        + ∑ x : Fin k, Ideal.exp (s (n + x.val) - top s (n + k)) * v (n + x.val)
      = wsum s v (n + k) (top s (n + k)) := by
  rw [wsum_rescale s v n (fun j hj => le_top_of_lt s hj) ((le_max_left _ _).trans (top_add s n k).le) (top_ne_top s hs _), wsum_add]

/-! ## The quotient -/

/-- Positions from `n` on whose score is minus infinity add nothing to the maximum. -/
theorem top_tail (s : ℕ → EReal) {n N : ℕ} (hn : n ≤ N) (tail : ∀ j, n ≤ j → s j = ⊥) : top s N = top s n := by
  refine le_antisymm (Finset.sup_le fun j _ => ?_) (Finset.sup_mono fun j hj => Finset.mem_range.mpr (by have := Finset.mem_range.mp hj; omega))
  rcases Nat.lt_or_ge j n with h | h
  · exact le_top_of_lt s h
  · rw [tail j h]; exact bot_le

/-- Scores of minus infinity past a prefix add nothing to the weighted sum. -/
theorem wsum_tail (s v : ℕ → EReal) {n N : ℕ} (hn : n ≤ N) (tail : ∀ j, n ≤ j → s j = ⊥) (m : EReal) : wsum s v N m = wsum s v n m := by
  unfold wsum
  symm
  refine Finset.sum_subset (fun j hj => Finset.mem_range.mpr (by have := Finset.mem_range.mp hj; omega)) fun j _ hj => ?_
  rw [tail j (by simpa using hj), exp_bot_sub, zero_mul]

/-- Scores of minus infinity past a prefix add nothing to the mass. -/
theorem mass_tail (s : ℕ → EReal) {n N : ℕ} (hn : n ≤ N) (tail : ∀ j, n ≤ j → s j = ⊥) (m : EReal) : mass s N m = mass s n m := by
  have := wsum_tail s (fun _ => 1) hn tail m
  simpa only [wsum, mass, mul_one] using this

/-- The weights of a row with one score above minus infinity and none at plus infinity sum to a positive real. -/
theorem mass_pos (s : ℕ → EReal) (hs : ∀ j, s j ≠ ⊤) {n j : ℕ} (hj : j < n) (hb : s j ≠ ⊥) :
    ∃ r : ℝ, 0 < r ∧ mass s n (top s n) = (r : EReal) := by
  have hterm : ∀ i ∈ Finset.range n, Ideal.exp (s i - top s n) ≠ ⊤ := fun i hi =>
    exp_ne_top (sub_ne_top (le_top_of_lt s (Finset.mem_range.mp hi)) (top_ne_top s hs n))
  have hpos : 0 < Ideal.exp (s j - top s n) := by
    have h1 := le_top_of_lt s hj
    have h2 := top_ne_top s hs n
    generalize s j = a at *
    generalize top s n = m at *
    induction m using EReal.rec with
    | bot => exact absurd (le_bot_iff.mp h1) hb
    | top => exact absurd rfl h2
    | coe m =>
      induction a using EReal.rec with
      | bot => exact absurd rfl hb
      | top => exact absurd h1 (by simp)
      | coe a => rw [← EReal.coe_sub, exp_coe]; exact EReal.coe_pos.mpr (Real.exp_pos _)
  have hge : Ideal.exp (s j - top s n) ≤ mass s n (top s n) :=
    Finset.single_le_sum (f := fun i => Ideal.exp (s i - top s n)) (fun i _ => exp_nonneg _) (Finset.mem_range.mpr hj)
  have hfin : mass s n (top s n) ≠ ⊤ := by
    unfold mass
    generalize Finset.range n = S at hterm
    clear hge
    induction S using Finset.induction_on with
    | empty => simp
    | insert a S ha ih =>
      rw [Finset.sum_insert ha]
      exact EReal.add_ne_top (hterm a (Finset.mem_insert_self _ _)) (ih fun i hi => hterm i (Finset.mem_insert_of_mem hi))
  have hp := lt_of_lt_of_le hpos hge
  generalize mass s n (top s n) = t at *
  induction t using EReal.rec with
  | bot => exact absurd hp (by simp)
  | top => exact absurd rfl hfin
  | coe r => exact ⟨r, EReal.coe_pos.mp hp, rfl⟩

/-- Dividing the accumulated sum by the accumulated weight after `n` positions is the sum of normalised weights times values
    over all `N`, when every position from `n` on has score minus infinity. -/
theorem quotient_eq (s v : ℕ → EReal) (hs : ∀ j, s j ≠ ⊤) {n N : ℕ} (hn : n ≤ N) (tail : ∀ j, n ≤ j → s j = ⊥)
    {j : ℕ} (hj : j < n) (hb : s j ≠ ⊥) :
    Ideal.div (wsum s v n (top s n)) (mass s n (top s n))
      = ∑ i : Fin N, Ideal.div (Ideal.exp (s i.val - top s N)) (∑ x : Fin N, Ideal.exp (s x.val - top s N)) * v i.val := by
  have e1 : ∑ x : Fin N, Ideal.exp (s x.val - top s N) = mass s N (top s N) := by
    unfold mass; rw [Finset.sum_range (f := fun x => Ideal.exp (s x - top s N))]
  rw [e1, mass_tail s hn tail, top_tail s hn tail]
  obtain ⟨r, hr, hm⟩ := mass_pos s hs hj hb
  rw [hm, Ideal.div_coe hr.ne', ← wsum_tail s v hn tail, mul_comm]
  unfold wsum
  rw [mul_sum _ (EReal.coe_nonneg.mpr (by positivity)) (EReal.coe_ne_top _), Finset.sum_range]
  refine Finset.sum_congr rfl fun i _ => ?_
  rw [Ideal.div_coe hr.ne', ← mul_assoc, mul_comm (Ideal.exp _)]

end Cert.Proof.Softmax

end
-- ==== Proof.FlashPayload.lean ====
/-
  What the attention kernel's vector operations leave at an index.

  A block holds 128 queries of the four heads that share one key head, stacked to 512 rows: row `r` is query `r % 128` of
  head `r / 128`. `raw` is a row's score at a key before the causal mask: the dot product plus the block mask's entry.
  Each payload is read at a row as one step of the running softmax of `Cert.Proof.Softmax`.
-/
module

public import proofs.«01_k».proof.Proof.Gen.KernelIdeal.Skeleton
public import proofs.«01_k».proof.Proof.Words
public import proofs.«01_k».proof.Proof.OnlineSoftmax
public import Idealize.ShloMosaic.Lib.Pointwise
public import Idealize.ShloMosaic.Lib.Pipeline.Value

@[expose] public section

set_option maxRecDepth 16384

noncomputable section

namespace Cert.KernelIdeal.Flash

open Idealize.ShloMosaic Idealize.ShloMosaic.TcCoe
open Cert.KernelIdeal Cert.KernelIdeal.Gen Cert.KernelIdeal.Words
open Cert.Proof
open scoped BigOperators

/-! ## The scores -/

/-- Query `r % 128` of head `r / 128`, at feature `d`. -/
def qrow (x0 : Vec Ideal S128x512 .bf16) (r : Fin 512) (d : Fin 128) : EReal :=
  x0 (ix2 ⟨r.val % 128, by omega⟩ ⟨128 * (r.val / 128) + d.val, by omega⟩)

/-- The score of row `r` at key `j` before the causal mask. -/
def raw (x0 : Vec Ideal S128x512 .bf16) (x1 : Vec Ideal S2048x128 .bf16) (x3 : Vec Ideal S1x1x4x16 .f32) (r : Fin 512) (j : ℕ) : EReal :=
  (∑ d : Fin 128, qrow x0 r d * x1 (ix2 (Fin.ofNat 2048 j) d)) + x3 (ix4 0 0 ⟨r.val / 128, by omega⟩ (Fin.ofNat 16 (j / 128)))

/-- The score of row `r` of query block `n` at key `j`: minus infinity at a later key. -/
def score (n : ℕ) (x0 : Vec Ideal S128x512 .bf16) (x1 : Vec Ideal S2048x128 .bf16) (x3 : Vec Ideal S1x1x4x16 .f32) (r : Fin 512) (j : ℕ) : EReal :=
  if j ≤ n * 128 + r.val % 128 then raw x0 x1 x3 r j else ⊥

/-- The value of key `j` at feature `d`. -/
def val (x2 : Vec Ideal S2048x128 .bf16) (d : Fin 128) (j : ℕ) : EReal := x2 (ix2 (Fin.ofNat 2048 j) d)

/-! ## Loads -/

/-- The stacked queries: the block's four column groups, one under another. -/
def stack (x0 : Vec Ideal S128x512 .bf16) : FVec Ideal S512x128 .bf16 :=
  k1_pay10 (F := Ideal) (View.ld x0 (Rect.unit (s := S128x512) ![0, 0] S128x128.size inb_S128x512_S128x128_0_0))
    (View.ld x0 (Rect.unit (s := S128x512) ![0, 128] S128x128.size inb_S128x512_S128x128_0_128))
    (View.ld x0 (Rect.unit (s := S128x512) ![0, 256] S128x128.size inb_S128x512_S128x128_0_256))
    (View.ld x0 (Rect.unit (s := S128x512) ![0, 384] S128x128.size inb_S128x512_S128x128_0_384))

/-- The stacked queries at a row and a column. -/
theorem stack_apply (x0 : Vec Ideal S128x512 .bf16) (r : Fin 512) (d : Fin 128) : stack x0 (ix2 r d) = qrow x0 r d := by
  unfold stack qrow
  unfold_payloads
  simp only [View.ld_unit]
  pointwise []
  split_ifs <;> exact congrArg x0 (congrArg₂ ix2 (Fin.ext (by dsimp only; omega)) (Fin.ext (by dsimp only; omega)))

/-- The rows of a chunk of 512 keys from row `o`. -/
theorem chunk_apply (x : Vec Ideal S2048x128 .bf16) (off : Fin 2 → ℕ) (inb) (o : ℕ) (h : off = ![o, 0]) (ho : o + 512 ≤ 2048) (c : Fin 512) (d : Fin 128) :
    View.ld x (Rect.unit (s := S2048x128) off S512x128.size inb) (ix2 c d) = x (ix2 (Fin.ofNat 2048 (o + c.val)) d) := by
  subst h
  simp only [View.ld_unit]
  pointwise []
  congr 1
  idx_ext <;> simp [Nat.mod_eq_of_lt (show o + c.val < 2048 by omega)]

/-! ## The block mask spread over rows and columns -/

/-- A sum against a one-hot row is the entry it picks. -/
theorem sum_pick {n : ℕ} (p : Fin n → Prop) [DecidablePred p] (k : Fin n) (h : ∀ x, p x ↔ x = k) (f : Fin n → EReal) :
    ∑ x, (if p x then (1 : EReal) else 0) * f x = f k := by
  rw [Finset.sum_eq_single k (fun b _ hb => by rw [if_neg (fun e => hb ((h b).mp e)), zero_mul]) (fun h => absurd (Finset.mem_univ _) h),
    if_pos ((h k).mpr rfl), one_mul]

/-- The mask's row for each stacked row: that of its head. -/
def maskRows (x3 : Vec Ideal S1x1x4x16 .f32) : FVec Ideal S512x16 .bf16 := k1_pay13 (F := Ideal) (k1_pay11 x3) k1_pay12

/-- The mask laid out by row: each stacked row takes its head's flags. -/
theorem maskRows_apply (x3 : Vec Ideal S1x1x4x16 .f32) (r : Fin 512) (b : Fin 16) :
    maskRows x3 (ix2 r b) = x3 (ix4 0 0 ⟨r.val / 128, by omega⟩ b) := by
  unfold maskRows
  unfold_payloads
  pointwise [dot_S512x4_S4x16_S512x16_1_0_0_1_n_n]
  simp only [test_value]
  exact sum_pick _ ⟨r.val / 128, by omega⟩ (fun x => (head_test r x).trans (Fin.ext_iff (b := ⟨r.val / 128, _⟩)).symm) (fun x => x3 (ix4 0 0 x b))

/-! ## The score block of a chunk -/

/-- The score block of chunk `ch` before the causal mask. -/
theorem chunk_score (x0 : Vec Ideal S128x512 .bf16) (x1 : Vec Ideal S2048x128 .bf16) (x3 : Vec Ideal S1x1x4x16 .f32)
    (kb : FVec Ideal S512x128 .bf16) (ch : Fin 4) (h : ∀ c d, kb (ix2 c d) = x1 (ix2 (Fin.ofNat 2048 (512 * ch.val + c.val)) d)) (r c : Fin 512) :
    k1_pay29 (stack x0) (maskRows x3) (BitVec.ofNat 32 ch.val) kb (constant S512x512 .f32 0x00000000#32) (ix2 r c)
      = raw x0 x1 x3 r (512 * ch.val + c.val) := by
  unfold_payloads
  pointwise [dot_S512x128_S512x128_S512x512_1_1_0_0_n_n, dot_S512x16_S16x512_S512x512_1_0_0_1_n_n]
  simp only [test_value, stack_apply, h, maskRows_apply]
  unfold raw
  congr 1
  refine (Finset.sum_congr rfl fun _ _ => mul_comm _ _).trans ?_
  refine (sum_pick _ (Fin.ofNat 16 ((512 * ch.val + c.val) / 128)) (fun x => (block_test x c ch).trans ?_) (fun x => x3 (ix4 0 0 ⟨r.val / 128, by omega⟩ x)))
  rw [Fin.ext_iff]
  show _ ↔ x.val = (512 * ch.val + c.val) / 128 % 16
  omega

/-! ## One step of the running softmax at a row -/

/-- The new running maximum of a row is the greater of the old one and the chunk's. -/
theorem max_apply (m : FVec Ideal S512x1 .f32) (s : FVec Ideal S512x512 .f32) (r : Fin 512) (z : Fin 1) :
    k1_pay17 (F := Ideal) m s (ix2 r z) = max (m (ix2 r 0)) (Finset.univ.fold max ⊥ fun x => s (ix2 r x)) := by
  unfold_payloads
  pointwise []
  rw [neg_inf, Subsingleton.elim z 0]

/-- The new weight mass of a row: the old one rescaled, plus the chunk's weights. -/
theorem mass_apply (m l : FVec Ideal S512x1 .f32) (s : FVec Ideal S512x512 .f32) (r : Fin 512) (z : Fin 1) :
    k1_pay20 (F := Ideal) m l s (ix2 r z)
      = l (ix2 r 0) * Ideal.exp (m (ix2 r 0) - max (m (ix2 r 0)) (Finset.univ.fold max ⊥ fun x => s (ix2 r x)))
        + ∑ y, Ideal.exp (s (ix2 r y) - max (m (ix2 r 0)) (Finset.univ.fold max ⊥ fun x => s (ix2 r x))) := by
  unfold_payloads
  pointwise []
  rw [neg_inf, Subsingleton.elim z 0]

/-- The new weighted sum of a row: the old one rescaled, plus the chunk's weighted values. -/
theorem wsum_apply (m : FVec Ideal S512x1 .f32) (a : FVec Ideal S512x128 .f32) (v : FVec Ideal S512x128 .bf16) (s : FVec Ideal S512x512 .f32)
    (r : Fin 512) (d : Fin 128) :
    k1_pay21 (F := Ideal) m a v s (ix2 r d)
      = a (ix2 r d) * Ideal.exp (m (ix2 r 0) - max (m (ix2 r 0)) (Finset.univ.fold max ⊥ fun x => s (ix2 r x)))
        + ∑ y, Ideal.exp (s (ix2 r y) - max (m (ix2 r 0)) (Finset.univ.fold max ⊥ fun x => s (ix2 r x))) * v (ix2 y d) := by
  unfold_payloads
  pointwise [dot_S512x512_S512x128_S512x128_1_0_0_1_n_n]
  rw [neg_inf]

/-- The last chunk's step and the quotient. -/
theorem quotient_apply (m l : FVec Ideal S512x1 .f32) (a : FVec Ideal S512x128 .f32) (v : FVec Ideal S512x128 .bf16) (s : FVec Ideal S512x512 .f32)
    (k : IVec S512x512 1) (t : Fin 512 → EReal) (r : Fin 512) (d : Fin 128)
    (ht : ∀ x, Scalar.select (k (ix2 r x)) (s (ix2 r x)) (⊥ : EReal) = t x) :
    k1_pay1 (F := Ideal) m l a v s k (Named.named κ "neg" 0xF149F2CA#32) (ix2 r d)
      = Ideal.div
          (a (ix2 r d) * Ideal.exp (m (ix2 r 0) - max (m (ix2 r 0)) (Finset.univ.fold max ⊥ t))
            + ∑ y, Ideal.exp (t y - max (m (ix2 r 0)) (Finset.univ.fold max ⊥ t)) * v (ix2 y d))
          (l (ix2 r 0) * Ideal.exp (m (ix2 r 0) - max (m (ix2 r 0)) (Finset.univ.fold max ⊥ t))
            + ∑ y, Ideal.exp (t y - max (m (ix2 r 0)) (Finset.univ.fold max ⊥ t))) := by
  unfold_payloads
  pointwise [dot_S512x512_S512x128_S512x128_1_0_0_1_n_n]
  rw [show (Named.named κ "neg" 0xF149F2CA#32 : Ideal .f32) = (⊥ : EReal) from rfl]
  simp only [neg_inf, ht]

/-- The causal mask of the query block's own chunk. -/
theorem causal_apply (n : Fin 16) (ch : Fin 4) (r c : Fin 512) :
    k1_pay30 (BitVec.ofNat 32 n.val) (BitVec.ofNat 32 ch.val) (ix2 r c) = 1 ↔ 512 * ch.val + c.val ≤ n.val * 128 + r.val % 128 := by
  unfold_payloads
  pointwise []
  exact causal_test n ch r c

/-- The running maximum starts at minus infinity. -/
theorem start_max (r : Fin 512) (z : Fin 1) : k1_pay14 (F := Ideal) (ix2 r z) = (⊥ : EReal) := rfl

/-- The weight mass starts at zero. -/
theorem start_mass (r : Fin 512) (z : Fin 1) : k1_pay15 (F := Ideal) (ix2 r z) = (0 : EReal) := by
  unfold_payloads
  pointwise []

/-- The weighted sum starts at zero. -/
theorem start_wsum (r : Fin 512) (d : Fin 128) : k1_pay16 (F := Ideal) (ix2 r d) = (0 : EReal) := by
  unfold_payloads
  pointwise []

end Cert.KernelIdeal.Flash

end
-- ==== Proof.FlashBody.lean ====
/-
  What one block of the attention kernel computes.

  The loop over full chunks of 512 keys carries the running maximum, mass and weighted sum of each stacked row over the
  keys before the chunk; the loop over remaining full chunks makes no trips; the last chunk is masked by causality and the
  quotient is stored head by head. So the block written at query block `n` holds, for each query and head, the weighted
  mean of the values over the keys of chunks `0 … n / 4`.
-/
module

public import proofs.«01_k».proof.Proof.FlashPayload
public import proofs.«01_k».proof.Proof.Gen.KernelIdeal.Frame
public import Idealize.ShloMosaic.Lib.LoopRemainder
public import Idealize.ShloMosaic.Lib.Pipeline.CanonAppend

@[expose] public section

set_option maxRecDepth 16384

noncomputable section

namespace Cert.KernelIdeal.Flash

open Idealize.ShloMosaic Idealize.ShloMosaic.TcCoe Idealize.SL.Sem
open Cert.KernelIdeal Cert.KernelIdeal.Gen Cert.KernelIdeal.Words
open Cert.Proof Cert.Proof.Softmax
open scoped BigOperators

/-! ## One trip of the loop over full chunks -/

/-- The score block of a trip, from the chunk's keys as loaded. -/
theorem trip_score (i : grid1.Coords) (v8 : FVec Ideal S512x128 .bf16) (v43 : FVec Ideal S512x16 .bf16) (k : Fin (k1_t1_loop i).trips)
    (kb : Vec Ideal S512x128 .bf16) :
    k1_pay7 i v8 v43 0#32 1#32 k kb
      = k1_pay29 v8 v43 (Scf.iv 0#32 1#32 k) (shapeCast S512x128 kb shapeCasts_S512x128_S512x128) (constant S512x512 .f32 0x00000000#32) := rfl

/-- A trip's result: one step of the running softmax on the chunk's keys and values. -/
theorem trip_eq (𝒱 : Variants) (c : Dev nD) (bd : Option 𝒱.V) (i : grid1.Coords)
    (arg2 : Memref sig .tc .vmem S128x512 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S1x1x4x16 .f32) (harg5 : arg5.IsWhole)
    (arg6 : Memref sig .tc .vmem S128x512 .f32) (harg6 : arg6.IsWhole) (arg1 : BitVec 32) (v8 v11 v38)
    (x1 x2 : Vec Ideal S2048x128 .bf16) (k : Fin (k1_t1_loop i).trips) (acc) :
    tripR_k1_t1 (F := Ideal) 𝒱 c bd i arg2 harg2 arg3 harg3 arg4 harg4 arg5 harg5 arg6 harg6 arg1 v8 v11 v38 (harg3.unread x1) (harg4.unread x2) k acc =
      let r : Rect S2048x128 := Rect.unit (s := S2048x128) (k1_off1 i k) S512x128.size (k1_off1_inb i k)
      let s := k1_pay29 v8 (k1_pay13 v11 v38) (Scf.iv 0#32 1#32 k) (View.ld x1 r) (constant S512x512 .f32 0x00000000#32)
      (k1_pay17 acc.1 s, k1_pay20 acc.1 acc.2.1 s, k1_pay21 acc.1 acc.2.2 (View.ld x2 r) s) := by
  unfold tripR_k1_t1 trip_k1_t1
  dsimp only
  sl_unfold_words
  simp only [View.readAt_eq_ld, harg3.read_unread, harg4.read_unread, shapeCast_self]
  rfl

/-! ## The loop -/

/-- What the running softmax holds for every row after the first `n` keys of the scores `s`. -/
def Holds (s : Fin 512 → ℕ → EReal) (x2 : Vec Ideal S2048x128 .bf16) (n : ℕ)
    (acc : FVec Ideal S512x1 .f32 × FVec Ideal S512x1 .f32 × FVec Ideal S512x128 .f32) : Prop :=
  ∀ r : Fin 512, acc.1 (ix2 r 0) = top (s r) n ∧ acc.2.1 (ix2 r 0) = mass (s r) n (top (s r) n)
    ∧ ∀ d : Fin 128, acc.2.2 (ix2 r d) = wsum (s r) (val x2 d) n (top (s r) n)

/-- Before the first chunk. -/
theorem holds_zero (s : Fin 512 → ℕ → EReal) (x2 : Vec Ideal S2048x128 .bf16) : Holds s x2 0 (k1_pay14 (F := Ideal), k1_pay15 (F := Ideal), k1_pay16 (F := Ideal)) := by
  intro r
  refine ⟨?_, ?_, fun d => ?_⟩
  · simp [start_max, top]
  · simp [start_mass, mass]
  · simp [start_wsum, wsum]

/-- One chunk more. -/
theorem holds_step {s : Fin 512 → ℕ → EReal} {x2 : Vec Ideal S2048x128 .bf16} {n : ℕ}
    {acc : FVec Ideal S512x1 .f32 × FVec Ideal S512x1 .f32 × FVec Ideal S512x128 .f32} (h : Holds s x2 n acc) (hs : ∀ r j, s r j ≠ ⊤)
    (b : FVec Ideal S512x512 .f32) (v : FVec Ideal S512x128 .bf16)
    (hb : ∀ r c, b (ix2 r c) = s r (n + c.val)) (hv : ∀ c d, v (ix2 c d) = val x2 d (n + c.val)) :
    Holds s x2 (n + 512) (k1_pay17 acc.1 b, k1_pay20 acc.1 acc.2.1 b, k1_pay21 acc.1 acc.2.2 v b) := by
  intro r
  obtain ⟨hm, hl, ha⟩ := h r
  refine ⟨?_, ?_, fun d => ?_⟩
  · refine (max_apply _ _ _ _).trans ?_
    simp only [hm, hb]
    exact top_add (s r) n 512
  · refine (mass_apply _ _ _ _ _).trans ?_
    simp only [hm, hl, hb, top_add]
    exact mass_chunk (s r) (hs r) n 512
  · refine (wsum_apply _ _ _ _ _ _).trans ?_
    simp only [hm, ha, hb, hv, top_add]
    exact wsum_chunk (s r) (val x2 d) (hs r) n 512

/-- The loop over full chunks: after `k` trips, the first `512 k` keys. -/
theorem loop_holds (𝒱 : Variants) (c : Dev nD) (bd : Option 𝒱.V) (i : grid1.Coords)
    (arg2 : Memref sig .tc .vmem S128x512 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S1x1x4x16 .f32) (harg5 : arg5.IsWhole)
    (arg6 : Memref sig .tc .vmem S128x512 .f32) (harg6 : arg6.IsWhole) (arg1 : BitVec 32)
    (x0 : Vec Ideal S128x512 .bf16) (x1 x2 : Vec Ideal S2048x128 .bf16) (x3 : Vec Ideal S1x1x4x16 .f32)
    (hs : ∀ r j, score (i 1).val x0 x1 x3 r j ≠ ⊤) (k : ℕ) (hk : k ≤ (i 1).val / 4) :
    Holds (score (i 1).val x0 x1 x3) x2 (512 * k)
      (st_k1_t1 (F := Ideal) 𝒱 c bd i arg2 harg2 arg3 harg3 arg4 harg4 arg5 harg5 arg6 harg6 arg1 (stack x0) (k1_pay11 x3) k1_pay12
        (harg3.unread x1) (harg4.unread x2) (k1_pay14, k1_pay15, k1_pay16) k) := by
  have hn : (i 1).val < 16 := (i 1).isLt
  induction k with
  | zero => exact holds_zero _ _
  | succ k ih =>
    have hlt : k < (k1_t1_loop i).trips := by rw [trips_full]; omega
    rw [st_k1_t1_succ (F := Ideal) 𝒱 c bd i arg2 harg2 arg3 harg3 arg4 harg4 arg5 harg5 arg6 harg6 arg1 _ _ _ _ _ _ ⟨k, hlt⟩, trip_eq]
    have e := off_chunk i ⟨k, hlt⟩
    refine holds_step (ih (by omega)) hs _ _ (fun r c => ?_) (fun c d => ?_)
    · rw [iv_eq]
      refine (chunk_score x0 x1 x3 _ ⟨k, by omega⟩ (fun c d => chunk_apply x1 _ _ _ e (by dsimp only; omega) c d) r c).trans ?_
      unfold score
      rw [if_pos (by dsimp only; omega)]
    · exact chunk_apply x2 _ _ _ e (by dsimp only; omega) c d

end Cert.KernelIdeal.Flash

end
-- ==== Proof.FlashOut.lean ====
/-
  The block the attention kernel writes at a query block, at an index: entry `(a, 128 e + d)` is the weighted mean, for
  query `a` of head `e`, of the values' feature `d`.
-/
module

public import proofs.«01_k».proof.Proof.FlashBody

@[expose] public section

set_option maxRecDepth 16384

noncomputable section

namespace Cert.KernelIdeal.Flash

open Idealize.ShloMosaic Idealize.ShloMosaic.TcCoe Idealize.SL.Sem
open Cert.KernelIdeal Cert.KernelIdeal.Gen Cert.KernelIdeal.Words
open Cert.Proof Cert.Proof.Softmax
open scoped BigOperators

/-- The quotient at a row after `n` keys: the weighted mean of the values. -/
def mean (s : ℕ → EReal) (v : ℕ → EReal) (n : ℕ) : EReal := Ideal.div (wsum s v n (top s n)) (mass s n (top s n))

/-- The last chunk's step, masked by causality, and the quotient. -/
theorem last_chunk (n : Fin 16) (x0 : Vec Ideal S128x512 .bf16) (x1 x2 : Vec Ideal S2048x128 .bf16) (x3 : Vec Ideal S1x1x4x16 .f32)
    (acc : FVec Ideal S512x1 .f32 × FVec Ideal S512x1 .f32 × FVec Ideal S512x128 .f32)
    (h : Holds (score n.val x0 x1 x3) x2 (512 * (n.val / 4)) acc) (hs : ∀ r j, score n.val x0 x1 x3 r j ≠ ⊤)
    (w : BitVec 32) (hw : w = BitVec.ofNat 32 (n.val / 4)) (kb vb : FVec Ideal S512x128 .bf16)
    (hk : ∀ c d, kb (ix2 c d) = x1 (ix2 (Fin.ofNat 2048 (512 * (n.val / 4) + c.val)) d))
    (hv : ∀ c d, vb (ix2 c d) = x2 (ix2 (Fin.ofNat 2048 (512 * (n.val / 4) + c.val)) d)) (r : Fin 512) (d : Fin 128) :
    k1_pay1 (F := Ideal) acc.1 acc.2.1 acc.2.2 vb (k1_pay29 (stack x0) (maskRows x3) w kb (constant S512x512 .f32 0x00000000#32))
        (k1_pay30 (BitVec.ofNat 32 n.val) w) (Named.named κ "neg" 0xF149F2CA#32) (ix2 r d)
      = mean (score n.val x0 x1 x3 r) (val x2 d) (512 * (n.val / 4 + 1)) := by
  subst hw
  obtain ⟨hm, hl, ha⟩ := h r
  refine (quotient_apply _ _ _ _ _ _ (fun c => score n.val x0 x1 x3 r (512 * (n.val / 4) + c.val)) r d fun c => ?_).trans ?_
  · rw [chunk_score x0 x1 x3 kb ⟨n.val / 4, by omega⟩ hk]
    unfold score
    exact if_congr (causal_apply n ⟨n.val / 4, by omega⟩ r c) rfl rfl
  · have hv' : ∀ y : Fin 512, vb (ix2 y d) = val x2 d (512 * (n.val / 4) + y.val) := fun y => hv y d
    simp only [hm, hl, ha, hv', Softmax.top_add]
    unfold mean
    rw [wsum_chunk _ _ (hs r), mass_chunk _ (hs r), Nat.mul_succ]

/-- The four stores, one per head, of a stack of 512 rows. -/
theorem heads_apply (G : FVec Ideal S512x128 .f32) (L : List (View.Piece (Elt Ideal) S128x512 .f32))
    (hL : ∀ p ∈ L, ∀ x : p.1.shape.Idx, p.2 x = G (ix2 ⟨128 * ((p.1.emb x 1).val / 128) + (p.1.emb x 0).val, by
        have h0 : (p.1.emb x 0).val < 128 := (p.1.emb x 0).isLt
        have h1 : (p.1.emb x 1).val < 512 := (p.1.emb x 1).isLt
        omega⟩ ⟨(p.1.emb x 1).val % 128, by omega⟩))
    (hc : ∀ y, ∃ p ∈ L, y ∈ p.1.set) (a : Fin 128) (b : Fin 512) :
    View.canon L (ix2 a b) = G (ix2 ⟨128 * (b.val / 128) + a.val, by omega⟩ ⟨b.val % 128, by omega⟩) :=
  View.canon_apply_of_pieces (fun y => G (ix2 ⟨128 * ((y 1).val / 128) + (y 0).val, by
        have h0 : (y 0).val < 128 := (y 0).isLt
        have h1 : (y 1).val < 512 := (y 1).isLt
        omega⟩ ⟨(y 1).val % 128, by omega⟩)) L hL (ix2 a b) (hc _)

/-- Head 0 of the four: the slice of the output block the final division writes, at a row and a column. -/
theorem head0_apply (m l : FVec Ideal S512x1 .f32) (a : FVec Ideal S512x128 .f32) (v : FVec Ideal S512x128 .bf16) (s : FVec Ideal S512x512 .f32)
    (k : IVec S512x512 1) (n : Ideal .f32) (r d : Fin 128) :
    k1_pay2 (F := Ideal) m l a v s k n (ix2 r d) = k1_pay1 (F := Ideal) m l a v s k n (ix2 ⟨r.val, by omega⟩ d) := by
  unfold k1_pay2
  pointwise []

/-- Head 1 of the four: the slice of the output block the final division writes, at a row and a column. -/
theorem head1_apply (m l : FVec Ideal S512x1 .f32) (a : FVec Ideal S512x128 .f32) (v : FVec Ideal S512x128 .bf16) (s : FVec Ideal S512x512 .f32)
    (k : IVec S512x512 1) (n : Ideal .f32) (r d : Fin 128) :
    k1_pay3 (F := Ideal) m l a v s k n (ix2 r d) = k1_pay1 (F := Ideal) m l a v s k n (ix2 ⟨128 + r.val, by omega⟩ d) := by
  unfold k1_pay3
  pointwise []

/-- Head 2 of the four: the slice of the output block the final division writes, at a row and a column. -/
theorem head2_apply (m l : FVec Ideal S512x1 .f32) (a : FVec Ideal S512x128 .f32) (v : FVec Ideal S512x128 .bf16) (s : FVec Ideal S512x512 .f32)
    (k : IVec S512x512 1) (n : Ideal .f32) (r d : Fin 128) :
    k1_pay4 (F := Ideal) m l a v s k n (ix2 r d) = k1_pay1 (F := Ideal) m l a v s k n (ix2 ⟨256 + r.val, by omega⟩ d) := by
  unfold k1_pay4
  pointwise []

/-- Head 3 of the four: the slice of the output block the final division writes, at a row and a column. -/
theorem head3_apply (m l : FVec Ideal S512x1 .f32) (a : FVec Ideal S512x128 .f32) (v : FVec Ideal S512x128 .bf16) (s : FVec Ideal S512x512 .f32)
    (k : IVec S512x512 1) (n : Ideal .f32) (r d : Fin 128) :
    k1_pay5 (F := Ideal) m l a v s k n (ix2 r d) = k1_pay1 (F := Ideal) m l a v s k n (ix2 ⟨384 + r.val, by omega⟩ d) := by
  unfold k1_pay5
  pointwise []

/-- The four stores of the quotient: each head's 128 rows to its 128 columns. -/
def pieces (m l : FVec Ideal S512x1 .f32) (a : FVec Ideal S512x128 .f32) (v : FVec Ideal S512x128 .bf16) (s : FVec Ideal S512x512 .f32)
    (k : IVec S512x512 1) (n : Ideal .f32) : List (View.Piece (Elt Ideal) S128x512 .f32) :=
  [⟨Rect.unit ![0, 384] ![128, 128] inb_S128x512_S128x128_0_384, k1_pay5 m l a v s k n⟩,
    ⟨Rect.unit ![0, 256] ![128, 128] inb_S128x512_S128x128_0_256, k1_pay4 m l a v s k n⟩,
    ⟨Rect.unit ![0, 128] ![128, 128] inb_S128x512_S128x128_0_128, k1_pay3 m l a v s k n⟩,
    ⟨Rect.unit ![0, 0] ![128, 128] inb_S128x512_S128x128_0_0, k1_pay2 m l a v s k n⟩]

/-- The block the four stores leave. -/
theorem pieces_apply (m l : FVec Ideal S512x1 .f32) (a : FVec Ideal S512x128 .f32) (v : FVec Ideal S512x128 .bf16) (s : FVec Ideal S512x512 .f32)
    (k : IVec S512x512 1) (n : Ideal .f32) (q : Fin 128) (b : Fin 512) :
    View.canon (pieces m l a v s k n) (ix2 q b)
      = k1_pay1 (F := Ideal) m l a v s k n (ix2 ⟨128 * (b.val / 128) + q.val, by omega⟩ ⟨b.val % 128, by omega⟩) := by
  refine heads_apply (k1_pay1 (F := Ideal) m l a v s k n) _ ?_
    (fun y => View.cover_of_tiledL (pieces m l a v s k n) S128x128.size (by sl_kernel_rfl) y) q b
  intro p hp x
  simp only [pieces, List.mem_cons, List.not_mem_nil, or_false] at hp
  rcases hp with rfl | rfl | rfl | rfl
  all_goals
    obtain ⟨r, d, rfl⟩ : ∃ (r d : Fin 128), x = ix2 r d := ⟨x 0, x 1, eq_ix2 x⟩
  · refine (head3_apply _ _ _ _ _ _ _ _ _).trans (congrArg _ (congrArg₂ ix2 (Fin.ext ?_) (Fin.ext ?_)))
    · show 384 + r.val = 128 * ((384 + 1 * d.val) / 128) + (0 + 1 * r.val); omega
    · show d.val = (384 + 1 * d.val) % 128; omega
  · refine (head2_apply _ _ _ _ _ _ _ _ _).trans (congrArg _ (congrArg₂ ix2 (Fin.ext ?_) (Fin.ext ?_)))
    · show 256 + r.val = 128 * ((256 + 1 * d.val) / 128) + (0 + 1 * r.val); omega
    · show d.val = (256 + 1 * d.val) % 128; omega
  · refine (head1_apply _ _ _ _ _ _ _ _ _).trans (congrArg _ (congrArg₂ ix2 (Fin.ext ?_) (Fin.ext ?_)))
    · show 128 + r.val = 128 * ((128 + 1 * d.val) / 128) + (0 + 1 * r.val); omega
    · show d.val = (128 + 1 * d.val) % 128; omega
  · refine (head0_apply _ _ _ _ _ _ _ _ _).trans (congrArg _ (congrArg₂ ix2 (Fin.ext ?_) (Fin.ext ?_)))
    · show r.val = 128 * ((0 + 1 * d.val) / 128) + (0 + 1 * r.val); omega
    · show d.val = (0 + 1 * d.val) % 128; omega

/-- The block the run leaves: the last chunk's step on what the loop over full chunks carries out. -/
theorem out_eq (c : Dev nD) (i : grid1.Coords)
    (arg2 : Memref sig .tc .vmem S128x512 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S1x1x4x16 .f32) (harg5 : arg5.IsWhole)
    (arg6 : Memref sig .tc .vmem S128x512 .f32) (harg6 : arg6.IsWhole)
    (x0 : Vec Ideal S128x512 .bf16) (x1 x2 : Vec Ideal S2048x128 .bf16) (x3 : Vec Ideal S1x1x4x16 .f32) :
    out1_A_4 (F := Ideal) c i arg2 harg2 arg3 harg3 arg4 harg4 arg5 harg5 arg6 harg6 x0 x1 x2 x3 =
      let acc := st_k1_t1 (F := Ideal) Variants.none c none i arg2 harg2 arg3 harg3 arg4 harg4 arg5 harg5 arg6 harg6 (BitVec.ofNat 32 (i 1).val)
        (stack x0) (k1_pay11 x3) k1_pay12 (harg3.unread x1) (harg4.unread x2) (k1_pay14, k1_pay15, k1_pay16) ((i 1).val / 4)
      let r : Rect S2048x128 := Rect.unit (s := S2048x128) (k1_off3 i) S512x128.size (k1_off3_inb i)
      View.canon (pieces acc.1 acc.2.1 acc.2.2 (View.ld x2 r)
        (k1_pay29 (stack x0) (maskRows x3) (div4 (BitVec.ofNat 32 (i 1).val)) (View.ld x1 r) (constant S512x512 .f32 0x00000000#32))
        (k1_pay30 (BitVec.ofNat 32 (i 1).val) (div4 (BitVec.ofNat 32 (i 1).val))) (Named.named κ "neg" 0xF149F2CA#32)) := by
  unfold out1_A_4
  rw [View.read_writes_eq_canon _ _ _ (cover1_A_4 c i arg2 harg2 arg3 harg3 arg4 harg4 arg5 harg5 arg6 harg6 x0 x1 x2 x3)]
  unfold kernelRun1_A
  dsimp only
  sl_unfold_words
  simp only [View.readAt_eq_ld, harg2.read_unread, harg3.read_unread, harg4.read_unread, harg5.read_unread]
  rw [View.ld_unit_zero (S := S1x1x4x16) (by funext a; fin_cases a <;> rfl),
    show Scf.trips (k1_t2_loop i).lb (k1_t2_loop i).ub (k1_t2_loop i).st = 0 from trips_rest i,
    show Scf.trips (k1_t1_loop i).lb (k1_t1_loop i).ub (k1_t1_loop i).st = (i 1).val / 4 from trips_full i, st_k1_t2_zero]
  unfold pieces stack maskRows k1_pay27 k1_pay28
  simp only [shapeCast_self]
  rfl

/-- The block written at query block `i 1`, at an index. -/
theorem out_apply (c : Dev nD) (i : grid1.Coords)
    (arg2 : Memref sig .tc .vmem S128x512 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S1x1x4x16 .f32) (harg5 : arg5.IsWhole)
    (arg6 : Memref sig .tc .vmem S128x512 .f32) (harg6 : arg6.IsWhole)
    (x0 : Vec Ideal S128x512 .bf16) (x1 x2 : Vec Ideal S2048x128 .bf16) (x3 : Vec Ideal S1x1x4x16 .f32)
    (hs : ∀ r j, score (i 1).val x0 x1 x3 r j ≠ ⊤) (a : Fin 128) (b : Fin 512) :
    out1_A_4 (F := Ideal) c i arg2 harg2 arg3 harg3 arg4 harg4 arg5 harg5 arg6 harg6 x0 x1 x2 x3 (ix2 a b)
      = mean (score (i 1).val x0 x1 x3 ⟨128 * (b.val / 128) + a.val, by omega⟩) (val x2 ⟨b.val % 128, by omega⟩) (512 * ((i 1).val / 4 + 1)) := by
  have hn : (i 1).val < 16 := (i 1).isLt
  rw [out_eq]
  refine (pieces_apply _ _ _ _ _ _ _ a b).trans ?_
  exact last_chunk ⟨(i 1).val, hn⟩ x0 x1 x2 x3 _
    (loop_holds Variants.none c none i arg2 harg2 arg3 harg3 arg4 harg4 arg5 harg5 arg6 harg6 (BitVec.ofNat 32 (i 1).val) x0 x1 x2 x3 hs _ le_rfl)
    hs _ (div4_eq ⟨(i 1).val, hn⟩) _ _ (fun c d => chunk_apply x1 _ _ _ (off_last i) (by omega) c d) (fun c d => chunk_apply x2 _ _ _ (off_last i) (by omega) c d) _ _

end Cert.KernelIdeal.Flash

end
-- ==== Proof.FlashArray.lean ====
/-
  The flash region's result array, at a query row and a feature of a head.
-/
module

public import proofs.«01_k».proof.Proof.FlashOut
public import Idealize.ShloMosaic.Lib.Pipeline.ValueKit.Geometry

@[expose] public section

set_option maxRecDepth 16384

noncomputable section

namespace Cert.KernelIdeal.Flash

open Idealize.ShloMosaic Idealize.ShloMosaic.TcCoe
open Cert.KernelIdeal Cert.KernelIdeal.Gen
open scoped BigOperators

/-- The score of head `h`'s query `t` at key `j`, over the whole arrays: minus infinity at a later key. -/
def rowScore (Q : Vec Ideal S2048x4096 .bf16) (K : Vec Ideal S2048x1024 .bf16) (B : Vec Ideal S16x8x4x16 .f32)
    (h : Fin 32) (t : Fin 2048) (j : ℕ) : EReal :=
  if j ≤ t.val then
    (∑ d : Fin 128, Q (ix2 t ⟨128 * h.val + d.val, by omega⟩) * K (ix2 (Fin.ofNat 2048 j) ⟨128 * (h.val / 4) + d.val, by omega⟩))
      + B (ix4 ⟨t.val / 128, by omega⟩ ⟨h.val / 4, by omega⟩ ⟨h.val % 4, by omega⟩ (Fin.ofNat 16 (j / 128)))
  else ⊥

/-- Head `h`'s value of key `j` at feature `d`. -/
def rowVal (X : Vec Ideal S2048x1024 .bf16) (h : Fin 32) (d : Fin 128) (j : ℕ) : EReal :=
  X (ix2 (Fin.ofNat 2048 j) ⟨128 * (h.val / 4) + d.val, by omega⟩)

variable (V : (c : Dev nD) → (b : Ref sig .tc) → Buf (Elt Ideal) ((c : Thread nD τ).loc b))

/-- Which block of each array a grid point reads and writes. -/
theorem index1 : ∀ t : Fin cfg1.N,
    win1_0.index t = ![(grid1.coords t 1).val, (grid1.coords t 0).val] ∧ win1_1.index t = ![0, (grid1.coords t 0).val]
    ∧ win1_2.index t = ![0, (grid1.coords t 0).val] ∧ win1_3.index t = ![(grid1.coords t 1).val, (grid1.coords t 0).val, 0, 0]
    ∧ win1_4.index t = ![(grid1.coords t 1).val, (grid1.coords t 0).val] := by
  decide +kernel

/-- A grid point's two coordinates are a key-value head and a query block. -/
theorem coords_lt (t : Fin cfg1.N) : (grid1.coords t 0).val < 8 ∧ (grid1.coords t 1).val < 16 :=
  ⟨(grid1.coords t 0).isLt, (grid1.coords t 1).isLt⟩

/-- A point's query block, at an index. -/
theorem read_q (c : Dev nD) (t : Fin cfg1.N) (a : Fin 128) (b : Fin 512) :
    (iblk1 V c 0 t : Vec Ideal S128x512 .bf16) (ix2 a b)
      = V c main_v19 (ix2 ⟨128 * (grid1.coords t 1).val + a.val, by have := coords_lt t; omega⟩ ⟨512 * (grid1.coords t 0).val + b.val, by have := coords_lt t; omega⟩) := by
  blk_simp [iblk1]
  refine congrArg (V c main_v19) ?_
  blk_ext [(index1 t).1]

/-- A point's keys, at an index. -/
theorem read_k (c : Dev nD) (t : Fin cfg1.N) (a : Fin 2048) (b : Fin 128) :
    (iblk1 V c 1 t : Vec Ideal S2048x128 .bf16) (ix2 a b)
      = V c main_v20 (ix2 a ⟨128 * (grid1.coords t 0).val + b.val, by have := coords_lt t; omega⟩) := by
  blk_simp [iblk1]
  refine congrArg (V c main_v20) ?_
  blk_ext [(index1 t).2.1]

/-- A point's values, at an index. -/
theorem read_v (c : Dev nD) (t : Fin cfg1.N) (a : Fin 2048) (b : Fin 128) :
    (iblk1 V c 2 t : Vec Ideal S2048x128 .bf16) (ix2 a b)
      = V c main_v21 (ix2 a ⟨128 * (grid1.coords t 0).val + b.val, by have := coords_lt t; omega⟩) := by
  blk_simp [iblk1]
  refine congrArg (V c main_v21) ?_
  blk_ext [(index1 t).2.2.1]

/-- A point's block of the mask, at an index. -/
theorem read_b (c : Dev nD) (t : Fin cfg1.N) (a : Fin 4) (b : Fin 16) :
    (iblk1 V c 3 t : Vec Ideal S1x1x4x16 .f32) (ix4 0 0 a b)
      = V c main_v16 (ix4 ⟨(grid1.coords t 1).val, (coords_lt t).2⟩ ⟨(grid1.coords t 0).val, (coords_lt t).1⟩ a b) := by
  blk_simp [iblk1]
  refine congrArg (V c main_v16) ?_
  blk_ext [(index1 t).2.2.2.1]

/-- A point's score of its stacked row `r`, over the whole arrays. -/
theorem block_score (c : Dev nD) (t : Fin cfg1.N) (r : Fin 512) (h : Fin 32) (q : Fin 2048)
    (hh : h.val = 4 * (grid1.coords t 0).val + r.val / 128) (hq : q.val = 128 * (grid1.coords t 1).val + r.val % 128) :
    score (grid1.coords t 1).val (iblk1 V c 0 t) (iblk1 V c 1 t) (iblk1 V c 3 t) r
      = rowScore (V c main_v19) (V c main_v20) (V c main_v16) h q := by
  have hc := coords_lt t
  funext j
  unfold score rowScore raw qrow
  rw [read_b]
  refine if_congr (by rw [hq, Nat.mul_comm]) (congrArg₂ _ (Finset.sum_congr rfl fun d _ => ?_) (congrArg (V c main_v16) ?_)) rfl
  · rw [read_q, read_k]
    exact congrArg₂ _ (congrArg (V c main_v19) (congrArg₂ ix2 (Fin.ext hq.symm) (Fin.ext (by simp only; omega))))
      (congrArg (V c main_v20) (congrArg₂ ix2 rfl (Fin.ext (by simp only; omega))))
  · have e0 : (⟨(grid1.coords t 1).val, hc.2⟩ : Fin 16) = ⟨q.val / 128, by omega⟩ := Fin.ext (by simp only; omega)
    have e1 : (⟨(grid1.coords t 0).val, hc.1⟩ : Fin 8) = ⟨h.val / 4, by omega⟩ := Fin.ext (by simp only; omega)
    have e2 : (⟨r.val / 128, by omega⟩ : Fin 4) = ⟨h.val % 4, by omega⟩ := Fin.ext (by simp only; omega)
    rw [e0, e1, e2]

/-- A point's value of key `j`, over the whole arrays. -/
theorem block_val (c : Dev nD) (t : Fin cfg1.N) (h : Fin 32) (d : Fin 128) (hh : h.val / 4 = (grid1.coords t 0).val) :
    val (iblk1 V c 2 t) d = rowVal (V c main_v21) h d := by
  funext j
  unfold val rowVal
  rw [read_v]
  exact congrArg (V c main_v21) (congrArg₂ ix2 rfl (Fin.ext (by simp only; omega)))

/-- The attention output over the whole arrays: at a query and a column, the softmax mean of the head's values over the keys of
    the query's group of four blocks and all before. -/
def attend (Q : Vec Ideal S2048x4096 .bf16) (K X : Vec Ideal S2048x1024 .bf16) (B : Vec Ideal S16x8x4x16 .f32) : Vec Ideal S2048x4096 .f32 :=
  fun i => mean (rowScore Q K B ⟨(i 1).val / 128, by have := (i 1).isLt; simp at this; omega⟩ (i 0))
    (rowVal X ⟨(i 1).val / 128, by have := (i 1).isLt; simp at this; omega⟩ ⟨(i 1).val % 128, by omega⟩) (512 * ((i 0).val / 512 + 1))

/-- Where no score is plus infinity, the flash region leaves the attention output in its result array. -/
theorem arr_eq (c : Dev nD) (hs : ∀ h t j, rowScore (V c main_v19) (V c main_v20) (V c main_v16) h t j ≠ ⊤) :
    (dat1 V c).arrAt 4 cfg1.N = attend (V c main_v19) (V c main_v20) (V c main_v21) (V c main_v16) := by
  refine (dat1 V c).arrAt_eq_of_covers 4 _ (by decide +kernel) fun t _ y => ?_
  blk_simp
  rw [after1_4]
  have hc := coords_lt t
  obtain ⟨a, b, rfl⟩ : ∃ (a : Fin 128) (b : Fin 512), y = ix2 a b := ⟨y 0, y 1, eq_ix2 y⟩
  have e : (win1_4.blk t).view.emb (ix2 a b) = ix2 (⟨128 * (grid1.coords t 1).val + a.val, by omega⟩ : Fin 2048)
      (⟨512 * (grid1.coords t 0).val + b.val, by omega⟩ : Fin 4096) := by blk_ext [(index1 t).2.2.2.2]
  rw [e]
  refine (out_apply c _ _ _ _ _ _ _ _ _ _ _ _ _ _ _ (fun r j => ?_) a b).trans ?_
  · rw [block_score V c t r ⟨4 * (grid1.coords t 0).val + r.val / 128, by omega⟩ ⟨128 * (grid1.coords t 1).val + r.val % 128, by omega⟩ rfl rfl]
    exact hs _ _ _
  · unfold attend
    rw [block_score V c t _ ⟨(512 * (grid1.coords t 0).val + b.val) / 128, by omega⟩ ⟨128 * (grid1.coords t 1).val + a.val, by omega⟩
      (by simp only; omega) (by simp only; omega), block_val V c t ⟨(512 * (grid1.coords t 0).val + b.val) / 128, by omega⟩ _ (by simp only; omega)]
    have e1 : (⟨b.val % 128, by omega⟩ : Fin 128) = ⟨(512 * (grid1.coords t 0).val + b.val) % 128, by omega⟩ := Fin.ext (by simp only; omega)
    have e2 : 512 * ((grid1.coords t 1).val / 4 + 1) = 512 * ((128 * (grid1.coords t 1).val + a.val) / 512 + 1) := by omega
    rw [e1, e2]
    rfl

end Cert.KernelIdeal.Flash

end
-- ==== Proof.KernelHost.lean ====
/-
  What the kernel's host operations hand to the two regions.
-/
module

public import proofs.«01_k».proof.Proof.GateArray
public import proofs.«01_k».proof.Proof.FlashArray
public import Idealize.ShloMosaic.Lib.StableHlo.Run

@[expose] public section

set_option maxRecDepth 16384

noncomputable section

namespace Cert.KernelIdeal.Run

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg)

/-- The means of the query blocks, by head. -/
def queryMeans (X : FVec Ideal S2048x4096 .f32) : FVec Ideal S32x16x128 .f32 :=
  shapeCast _ (Host.divf (Host.reduceAdd (shapeCast S1x32x16x128x128 (transpose S1x32x2048x128 [0, 2, 1, 3]
      (shapeCast _ X shapeCasts_S2048x4096_S1x2048x32x128) transposes_S1x2048x32x128_S1x32x2048x128_0_2_1_3) shapeCasts_S1x32x2048x128_S1x32x16x128x128)
      (constant S_ .f32 0x00000000#32) reducesTo_S1x32x16x128x128_S1x32x16x128_d3 h_S_)
    (broadcastInDim S1x32x16x128 ![] bcast_S_S1x32x16x128 (constant S_ .f32 0x43000000#32))) shapeCasts_S1x32x16x128_S32x16x128

/-- The means of the key blocks, by query head. -/
def keyMeans (X : FVec Ideal S2048x1024 .f32) : FVec Ideal S32x16x128 .f32 :=
  shapeCast _ (Host.divf (Host.reduceAdd (shapeCast S1x32x16x128x128 (shapeCast S1x32x2048x128 (broadcastInDim S1x8x4x2048x128 ![0, 1, 3, 4] bcast_S1x8x2048x128_S1x8x4x2048x128_0_1_3_4
      (transpose S1x8x2048x128 [0, 2, 1, 3] (shapeCast _ X shapeCasts_S2048x1024_S1x2048x8x128) transposes_S1x2048x8x128_S1x8x2048x128_0_2_1_3))
      shapeCasts_S1x8x4x2048x128_S1x32x2048x128) shapeCasts_S1x32x2048x128_S1x32x16x128x128)
      (constant S_ .f32 0x00000000#32) reducesTo_S1x32x16x128x128_S1x32x16x128_d3 h_S_)
    (broadcastInDim S1x32x16x128 ![] bcast_S_S1x32x16x128 (constant S_ .f32 0x43000000#32))) shapeCasts_S1x32x16x128_S32x16x128

/-- The queries times the scale. -/
def scaled (X : FVec Ideal S2048x4096 .f32) : FVec Ideal S2048x4096 .bf16 := fun i => X i * Ideal.ofBits FTy.f32 0x3DB504F3#32

/-- The gate region is entered with the query block means. -/
theorem entry_v10 (c : Dev nD) : V1 m ρ c main_v10 = queryMeans (m ((c : Thread nD τ).loc main_arg0)) := by
  unfold queryMeans
  show StableHlo.after hostOps0 (W0 m ρ c) (Proc.devRef .tc main_v10) = _
  simp only [hostOps0]
  after_results_simp
  rfl

/-- The gate region is entered with the key block means. -/
theorem entry_v15 (c : Dev nD) : V1 m ρ c main_v15 = keyMeans (m ((c : Thread nD τ).loc main_arg1)) := by
  unfold keyMeans
  show StableHlo.after hostOps0 (W0 m ρ c) (Proc.devRef .tc main_v15) = _
  simp only [hostOps0]
  after_results_simp
  rfl

/-- The flash region is entered with the queries times the scale. -/
theorem entry_v19 (c : Dev nD) : V3 m ρ c main_v19 = scaled (m ((c : Thread nD τ).loc main_arg0)) := by
  show StableHlo.after hostOps1 (W2 m ρ c) (Proc.devRef .tc main_v19) = _
  simp only [hostOps1]
  after_results_simp
  rw [W2_args m ρ c main_arg0 (by decide)]
  rfl

/-- It is entered with the keys. -/
theorem entry_v20 (c : Dev nD) : V3 m ρ c main_v20 = (m ((c : Thread nD τ).loc main_arg1) : FVec Ideal S2048x1024 .f32) := by
  show StableHlo.after hostOps1 (W2 m ρ c) (Proc.devRef .tc main_v20) = _
  simp only [hostOps1]
  after_results_simp
  rw [W2_args m ρ c main_arg1 (by decide)]
  rfl

/-- It is entered with the values. -/
theorem entry_v21 (c : Dev nD) : V3 m ρ c main_v21 = (m ((c : Thread nD τ).loc main_arg2) : FVec Ideal S2048x1024 .f32) := by
  show StableHlo.after hostOps1 (W2 m ρ c) (Proc.devRef .tc main_v21) = _
  simp only [hostOps1]
  after_results_simp
  rw [W2_args m ρ c main_arg2 (by decide)]
  rfl

/-- It is entered with the block mask the gate region left. -/
theorem entry_v16 (c : Dev nD) : V3 m ρ c main_v16 = Gate.mask (V1 m ρ) c :=
  (W3_of m ρ c main_v16 (by decide)).trans ((W2_arr m ρ c 4).trans (Gate.arr_eq (V1 m ρ) c))

end Cert.KernelIdeal.Run

end
-- ==== Proof.ReferenceParts.lean ====
/-
  The reference computation in named parts, and that its result is their composition.
-/
module

public import proofs.«01_k».proof.Proof.Gen.ReferenceIdeal.Run
public import Idealize.ShloMosaic.PureOps.Ideal

@[expose] public section

set_option maxRecDepth 16384

noncomputable section

namespace Cert.ReferenceIdeal.Parts

open Idealize.ShloMosaic Idealize.ShloMosaic.TcCoe
open Cert.ReferenceIdeal Cert.ReferenceIdeal.Gen

/-- The queries by head. -/
def heads (X : FVec Ideal S2048x4096 .f32) : FVec Ideal S1x32x2048x128 .f32 :=
  transpose S1x32x2048x128 [0, 2, 1, 3] (shapeCast _ X shapeCasts_S2048x4096_S1x2048x32x128) transposes_S1x2048x32x128_S1x32x2048x128_0_2_1_3

/-- The keys or values by query head: each key head serves four query heads. -/
def shared (X : FVec Ideal S2048x1024 .f32) : FVec Ideal S1x32x2048x128 .f32 :=
  shapeCast _ (broadcastInDim S1x8x4x2048x128 ![0, 1, 3, 4] bcast_S1x8x2048x128_S1x8x4x2048x128_0_1_3_4
    (transpose S1x8x2048x128 [0, 2, 1, 3] (shapeCast _ X shapeCasts_S2048x1024_S1x2048x8x128) transposes_S1x2048x8x128_S1x8x2048x128_0_2_1_3))
    shapeCasts_S1x8x4x2048x128_S1x32x2048x128

/-- The mean of every block of 128 tokens. -/
def means (Y : FVec Ideal S1x32x2048x128 .f32) : FVec Ideal S1x32x16x128 .f32 :=
  Host.divf (Host.reduceAdd (shapeCast _ Y shapeCasts_S1x32x2048x128_S1x32x16x128x128) (constant S_ .f32 0x00000000#32) reducesTo_S1x32x16x128x128_S1x32x16x128_d3 h_S_)
    (broadcastInDim S1x32x16x128 ![] bcast_S_S1x32x16x128 (constant S_ .f32 0x43000000#32))

/-- The gate's logits: the projected means' dot products. -/
def logits (A B : FVec Ideal S1x32x16x128 .f32) (w z : FVec Ideal S128x64 .f32) : FVec Ideal S1x32x16x16 .f32 :=
  Host.dotGeneral dot_S1x32x16x64_S1x32x16x64_S1x32x16x16_3_3_2_2_01_01 none
    (Host.dotGeneral dot_S1x32x16x128_S128x64_S1x32x16x64_3_0_012_1_n_n none A w)
    (Host.dotGeneral dot_S1x32x16x128_S128x64_S1x32x16x64_3_0_012_1_n_n none B z)

/-- The block mask: the gate's probability exceeds a half, or the block is on the diagonal. -/
def active (L : FVec Ideal S1x32x16x16 .f32) : IVec S1x32x16x16 1 :=
  ori (cmpf .ogt (Host.divf (broadcastInDim S1x32x16x16 ![] bcast_S_S1x32x16x16 (constant S_ .f32 0x3F800000#32))
      (addf (broadcastInDim S1x32x16x16 ![] bcast_S_S1x32x16x16 (constant S_ .f32 0x3F800000#32))
        (Host.exp (Host.negf (Host.divf L (broadcastInDim S1x32x16x16 ![] bcast_S_S1x32x16x16 (id (Host.sqrt (constant (F := Ideal) S_ .f32 0x42800000#32)))))))))
      (broadcastInDim S1x32x16x16 ![] bcast_S_S1x32x16x16 (constant S_ .f32 0x3F000000#32)))
    (broadcastInDim S1x32x16x16 ![0, 1, 2, 3] bcast_S1x1x16x16_S1x32x16x16_0_1_2_3 (broadcastInDim S1x1x16x16 ![2, 3] bcast_S16x16_S1x1x16x16_2_3
      (cmpi .eq (addi (iotaInDim S16x16 32 0) (broadcastInDim S16x16 ![] bcast_S_S16x16 (constantI S_ 32 0#32))) (iotaInDim S16x16 32 1))))

/-- The token mask: the block mask at the tokens' blocks, and no later key. -/
def allowed (A : IVec S1x32x16x16 1) : IVec S1x32x2048x2048 1 :=
  andi (shapeCast _ (broadcastInDim S1x32x2048x16x128 ![0, 1, 2, 3] bcast_S1x32x2048x16_S1x32x2048x16x128_0_1_2_3
      (shapeCast _ (broadcastInDim S1x32x16x128x16 ![0, 1, 2, 4] bcast_S1x32x16x16_S1x32x16x128x16_0_1_2_4 A) shapeCasts_S1x32x16x128x16_S1x32x2048x16))
      shapeCasts_S1x32x2048x16x128_S1x32x2048x2048)
    (broadcastInDim S1x32x2048x2048 ![0, 1, 2, 3] bcast_S1x1x2048x2048_S1x32x2048x2048_0_1_2_3 (broadcastInDim S1x1x2048x2048 ![2, 3] bcast_S2048x2048_S1x1x2048x2048_2_3
      (select (cmpi .sge (addi (iotaInDim S2048x2048 32 0) (broadcastInDim S2048x2048 ![] bcast_S_S2048x2048 (constantI S_ 32 0#32))) (iotaInDim S2048x2048 32 1))
        (broadcastInDim S2048x2048 ![] bcast_S_S2048x2048 (constantI S_ 1 1#1)) (broadcastInDim S2048x2048 ![] bcast_S_S2048x2048 (constantI S_ 1 0#1)))))

/-- The masked scores. -/
def scores (M : IVec S1x32x2048x2048 1) (Q K : FVec Ideal S1x32x2048x128 .f32) : FVec Ideal S1x32x2048x2048 .f32 :=
  select M (mulf (Host.dotGeneral dot_S1x32x2048x128_S1x32x2048x128_S1x32x2048x2048_3_3_2_2_01_01 none Q K)
      (broadcastInDim S1x32x2048x2048 ![] bcast_S_S1x32x2048x2048 (constant S_ .f32 0x3DB504F3#32)))
    (broadcastInDim S1x32x2048x2048 ![] bcast_S_S1x32x2048x2048 (id (constant (F := Ideal) S_ .f32 0xFF800000#32)))

/-- Every row's greatest score. -/
def greatest (S : FVec Ideal S1x32x2048x2048 .f32) : FVec Ideal S1x32x2048 .f32 :=
  Host.reduce FloatOps.maximumf S (constant S_ .f32 0xFF800000#32) reducesTo_S1x32x2048x2048_S1x32x2048_d3 h_S_

/-- The exponentials of the scores less their row's greatest. -/
def powers (S : FVec Ideal S1x32x2048x2048 .f32) (G : FVec Ideal S1x32x2048 .f32) : FVec Ideal S1x32x2048x2048 .f32 :=
  Host.exp (subf S (broadcastInDim S1x32x2048x2048 ![0, 1, 2, 3] bcast_S1x32x2048x1_S1x32x2048x2048_0_1_2_3
    (broadcastInDim S1x32x2048x1 ![0, 1, 2] bcast_S1x32x2048_S1x32x2048x1_0_1_2
      (maximumf (broadcastInDim S1x32x2048 ![] bcast_S_S1x32x2048 (constant S_ .f32 0xFF800000#32)) G))))

/-- The softmax weights: the exponentials over their row's sum. -/
def weights (E : FVec Ideal S1x32x2048x2048 .f32) : FVec Ideal S1x32x2048x2048 .f32 :=
  Host.divf E (broadcastInDim S1x32x2048x2048 ![0, 1, 2, 3] bcast_S1x32x2048x1_S1x32x2048x2048_0_1_2_3
    (broadcastInDim S1x32x2048x1 ![0, 1, 2] bcast_S1x32x2048_S1x32x2048x1_0_1_2
      (Host.reduceAdd E (constant S_ .f32 0x00000000#32) reducesTo_S1x32x2048x2048_S1x32x2048_d3 h_S_)))

/-- The weighted sums of the values, laid out by token. -/
def output (P : FVec Ideal S1x32x2048x2048 .f32) (X : FVec Ideal S1x32x2048x128 .f32) : FVec Ideal S2048x4096 .f32 :=
  shapeCast _ (transpose S1x2048x32x128 [0, 2, 1, 3] (Host.dotGeneral dot_S1x32x2048x2048_S1x32x2048x128_S1x32x2048x128_3_2_2_3_01_01 none P X)
    transposes_S1x32x2048x128_S1x2048x32x128_0_2_1_3) shapeCasts_S1x2048x32x128_S2048x4096

/-- The scores of the whole attention. -/
def table (q : FVec Ideal S2048x4096 .f32) (k : FVec Ideal S2048x1024 .f32) (w z : FVec Ideal S128x64 .f32) : FVec Ideal S1x32x2048x2048 .f32 :=
  scores (allowed (active (logits (means (heads q)) (means (shared k)) w z))) (heads q) (shared k)

/-- The attention's output from the scores and the values. -/
def attention (S : FVec Ideal S1x32x2048x2048 .f32) (X : FVec Ideal S1x32x2048x128 .f32) : FVec Ideal S2048x4096 .f32 :=
  output (weights (powers S (greatest S))) X

/-- The reference's result is the weighted sums of the values under the softmax of the scores. -/
theorem result_eq (m : (ℓ : Loc nD τ sig) → Buf (Elt Ideal) ℓ) (c : Dev nD) :
    Value.res_main_v67 m c = attention (table (m ((c.tc : Thread nD τ).loc main_arg0)) (m ((c.tc : Thread nD τ).loc main_arg1))
      (m ((c.tc : Thread nD τ).loc main_arg3)) (m ((c.tc : Thread nD τ).loc main_arg4))) (shared (m ((c.tc : Thread nD τ).loc main_arg2))) := by
  unfold Value.res_main_v67 attention table output weights powers greatest scores allowed active logits means shared heads
  rfl

end Cert.ReferenceIdeal.Parts

end
-- ==== Proof.ReferenceRead.lean ====
/-
  The reference's parts, each read at an index.
-/
module

public import proofs.«01_k».proof.Proof.ReferenceParts
public import Idealize.ShloMosaic.Lib.Affine
public import Idealize.ShloMosaic.Lib.Pointwise
public import Idealize.ShloMosaic.Lib.WordCmp

@[expose] public section

set_option maxRecDepth 16384

noncomputable section

namespace Cert.ReferenceIdeal.Parts

open Idealize.ShloMosaic Idealize.ShloMosaic.TcCoe
open Cert.ReferenceIdeal Cert.ReferenceIdeal.Gen
open scoped BigOperators

/-! ## Words and numbers -/

/-- The reference's masked score is minus infinity. -/
theorem word_neg_inf : Ideal.ofBits FTy.f32 0xFF800000#32 = ⊥ := by simp [Ideal.ofBits, Ideal.ieee]

/-- Dividing by the square root of 64 multiplies by an eighth. -/
theorem div_root (x : EReal) : Ideal.div x (Ideal.sqrt (Ideal.ofBits FTy.f32 0x42800000#32)) = x * Ideal.ofBits FTy.f32 0x3E000000#32 := by
  have e1 : Ideal.ofBits FTy.f32 0x42800000#32 = ((64 : ℝ) : EReal) := by
    simp [Ideal.ofBits, Ideal.ieee, -EReal.coe_mul]; norm_num
  have e2 : Ideal.ofBits FTy.f32 0x3E000000#32 = ((8⁻¹ : ℝ) : EReal) := by
    simp [Ideal.ofBits, Ideal.ieee, -EReal.coe_mul]; norm_num
  have e3 : Ideal.sqrt ((64 : ℝ) : EReal) = ((8 : ℝ) : EReal) := by
    have : Real.sqrt 64 = 8 := by rw [show (64 : ℝ) = 8 ^ 2 by norm_num]; exact Real.sqrt_sq (by norm_num)
    show (if (64 : ℝ) < 0 then ⊥ else ((Real.sqrt 64 : ℝ) : EReal)) = _
    rw [if_neg (by norm_num), this]
  rw [e1, e2, e3]
  unfold Ideal.div
  rw [if_neg (by exact_mod_cast (by norm_num : (8 : ℝ) ≠ 0)), EReal.coe_inv]

/-- A truth value written as a one-bit word is one exactly when it holds. -/
theorem flag_one_iff (p : Prop) [Decidable p] : BitVec.ofBool (decide p) = 1#1 ↔ p := by
  by_cases h : p <;> simp [h]

/-- Two block numbers' words agree exactly where the numbers do. -/
theorem eq_word (n k : Fin 16) : IntOp.cmpi CmpIPredicate.eq (IntOp.addi (BitVec.ofNat 32 n.val) 0#32) (BitVec.ofNat 32 k.val) = 1#1 ↔ n = k := by
  revert n k; decide +kernel

/-- The causal flag. -/
theorem causal_word (t j : Fin 2048) : Scalar.select (IntOp.cmpi CmpIPredicate.sge (IntOp.addi (BitVec.ofNat 32 t.val) 0#32) (BitVec.ofNat 32 j.val)) 1#1 0#1 = 1#1
    ↔ j ≤ t := by
  have e : IntOp.addi (BitVec.ofNat 32 t.val) 0#32 = BitVec.ofNat 32 t.val := BitVec.add_zero _
  rw [e, WordCmp.cmpi_sge_ofNat (by have := t.isLt; omega) (by have := j.isLt; omega)]
  by_cases h : j.val ≤ t.val
  · simp [h, Scalar.select, Fin.le_def]
  · simp [h, Scalar.select, Fin.le_def]

/-! ## The parts -/

/-- A head's query: the flat array's column of that head and feature. -/
theorem heads_apply (X : FVec Ideal S2048x4096 .f32) (h : Fin 32) (t : Fin 2048) (d : Fin 128) :
    heads X (ix4 0 h t d) = X (ix2 t ⟨128 * h.val + d.val, by omega⟩) := by
  pointwise [heads]
  exact congrArg X (congrArg₂ ix2 rfl (Fin.ext (by simp only; omega)))

/-- A query head's key or value: its key head's column. -/
theorem shared_apply (X : FVec Ideal S2048x1024 .f32) (h : Fin 32) (t : Fin 2048) (d : Fin 128) :
    shared X (ix4 0 h t d) = X (ix2 t ⟨128 * (h.val / 4) + d.val, by omega⟩) := by
  pointwise [shared]
  exact congrArg X (congrArg₂ ix2 rfl (Fin.ext (by simp only; omega)))

/-- A gate logit is the dot product of two projected means. -/
theorem logits_apply (A B : FVec Ideal S1x32x16x128 .f32) (w z : FVec Ideal S128x64 .f32) (h : Fin 32) (n k : Fin 16) :
    logits A B w z (ix4 0 h n k) = ∑ g : Fin 64, (∑ d : Fin 128, A (ix4 0 h n d) * w (ix2 d g)) * (∑ d : Fin 128, B (ix4 0 h k d) * z (ix2 d g)) := by
  pointwise [logits, dot_S1x32x16x64_S1x32x16x64_S1x32x16x16_3_3_2_2_01_01, dot_S1x32x16x128_S128x64_S1x32x16x64_3_0_012_1_n_n]

/-- A block is active where the logistic of an eighth of its logit exceeds a half, and on the diagonal. -/
theorem active_apply (L : FVec Ideal S1x32x16x16 .f32) (h : Fin 32) (n k : Fin 16) :
    active L (ix4 0 h n k) = 1#1
      ↔ Ideal.ofBits FTy.f32 0x3F000000#32 < Ideal.logistic (L (ix4 0 h n k) * Ideal.ofBits FTy.f32 0x3E000000#32) ∨ n = k := by
  pointwise [active]
  refine IntOp.ori_eq_one.trans (or_congr ((flag_one_iff _).trans ?_) (eq_word n k))
  rw [← div_root]
  exact Iff.rfl

/-- A key is allowed where its block is active from the query's and it is no later than the query. -/
theorem allowed_apply (A : IVec S1x32x16x16 1) (h : Fin 32) (t j : Fin 2048) :
    allowed A (ix4 0 h t j) = 1#1 ↔ A (ix4 0 h ⟨t.val / 128, by omega⟩ ⟨j.val / 128, by omega⟩) = 1#1 ∧ j ≤ t := by
  pointwise [allowed]
  exact IntOp.andi_eq_one.trans (and_congr Iff.rfl (causal_word t j))

/-- A score is the scaled dot product where the key is allowed, minus infinity elsewhere. -/
theorem scores_apply (M : IVec S1x32x2048x2048 1) (Q K : FVec Ideal S1x32x2048x128 .f32) (h : Fin 32) (t j : Fin 2048) :
    scores M Q K (ix4 0 h t j) = if M (ix4 0 h t j) = 1#1 then
      (∑ d : Fin 128, Q (ix4 0 h t d) * K (ix4 0 h j d)) * Ideal.ofBits FTy.f32 0x3DB504F3#32 else ⊥ := by
  pointwise [scores, dot_S1x32x2048x128_S1x32x2048x128_S1x32x2048x2048_3_3_2_2_01_01]
  exact if_congr Iff.rfl rfl word_neg_inf

/-- The maximum along the last axis of an array of rank four. -/
theorem max_last {n0 n1 n2 n3 : ℕ} (x : FVec Ideal ⟨4, ![n0, n1, n2, n3]⟩ .f32) (init : FVec Ideal ⟨0, ![]⟩ .f32)
    (h : (⟨4, ![n0, n1, n2, n3]⟩ : Shape).ReducesTo [3] ⟨3, ![n0, n1, n2]⟩) (hu : 0 < (⟨0, ![]⟩ : Shape).numel) (a : Fin n0) (b : Fin n1) (e : Fin n2) :
    Host.reduce FloatOps.maximumf x init h hu (ix3 a b e) = Finset.univ.fold max (init (Shape.Idx.first hu)) (fun k : Fin n3 => x (ix4 a b e k)) := by
  pointwise []

/-- A row's greatest score. -/
theorem greatest_apply (S : FVec Ideal S1x32x2048x2048 .f32) (h : Fin 32) (t : Fin 2048) :
    greatest S (ix3 0 h t) = Finset.univ.fold max ⊥ fun x : Fin 2048 => S (ix4 0 h t x) := by
  unfold greatest
  exact (max_last S (constant S_ .f32 0xFF800000#32) reducesTo_S1x32x2048x2048_S1x32x2048_d3 h_S_ 0 h t).trans
    (congrArg (fun b => Finset.univ.fold max b fun x : Fin 2048 => S (ix4 0 h t x)) word_neg_inf)

/-- A row's exponentials. -/
theorem powers_apply (S : FVec Ideal S1x32x2048x2048 .f32) (G : FVec Ideal S1x32x2048 .f32) (h : Fin 32) (t j : Fin 2048) :
    powers S G (ix4 0 h t j) = Ideal.exp (S (ix4 0 h t j) - G (ix3 0 h t)) := by
  pointwise [powers]
  rw [word_neg_inf, max_eq_right bot_le]

/-- A row's weights. -/
theorem weights_apply (E : FVec Ideal S1x32x2048x2048 .f32) (h : Fin 32) (t j : Fin 2048) :
    weights E (ix4 0 h t j) = Ideal.div (E (ix4 0 h t j)) (∑ x : Fin 2048, E (ix4 0 h t x)) := by
  pointwise [weights]

/-- The output of a query and a column: the weighted sum of the head's values. -/
theorem output_apply (P : FVec Ideal S1x32x2048x2048 .f32) (X : FVec Ideal S1x32x2048x128 .f32) (t : Fin 2048) (b : Fin 4096) :
    output P X (ix2 t b) = ∑ j : Fin 2048, P (ix4 0 ⟨b.val / 128, by omega⟩ t j) * X (ix4 0 ⟨b.val / 128, by omega⟩ j ⟨b.val % 128, by omega⟩) := by
  pointwise [output, dot_S1x32x2048x2048_S1x32x2048x128_S1x32x2048x128_3_2_2_3_01_01]

end Cert.ReferenceIdeal.Parts

end
-- ==== Proof.Equation.lean ====
/-
  The equation: on finite queries and keys the attention output the kernel leaves is the reference's.
-/
module

public import proofs.«01_k».proof.Proof.KernelHost
public import proofs.«01_k».proof.Proof.ReferenceRead
public import Idealize.ShloMosaic.Lib.ValueLayout

@[expose] public section

set_option maxRecDepth 16384

noncomputable section

namespace Cert.Proof.Equation

open Idealize.ShloMosaic Idealize.ShloMosaic.TcCoe
open Cert.KernelIdeal Cert.KernelIdeal.Gen
open Cert.ReferenceIdeal.Parts
open scoped BigOperators

variable (q : FVec Ideal S2048x4096 .f32) (k v : FVec Ideal S2048x1024 .f32) (w z : FVec Ideal S128x64 .f32)

/-! ## The gate -/

/-- The kernel's query block means are the reference's, the unit axis dropped. -/
theorem queryMeans_apply (h : Fin 32) (n : Fin 16) (d : Fin 128) : Run.queryMeans q (ix3 h n d) = means (heads q) (ix4 0 h n d) :=
  ValueIdx.shapeCast_1abc_abc_apply (means (heads q)) shapeCasts_S1x32x16x128_S32x16x128 h n d

/-- The kernel's key block means are the reference's, the unit axis dropped. -/
theorem keyMeans_apply (h : Fin 32) (n : Fin 16) (d : Fin 128) : Run.keyMeans k (ix3 h n d) = means (shared k) (ix4 0 h n d) :=
  ValueIdx.shapeCast_1abc_abc_apply (means (shared k)) shapeCasts_S1x32x16x128_S32x16x128 h n d

/-- The two gates' logits agree. -/
theorem logit_eq (h : Fin 32) (n m : Fin 16) :
    Gate.logit (Run.queryMeans q) (Run.keyMeans k) w z h n m = logits (means (heads q)) (means (shared k)) w z (ix4 0 h n m) := by
  rw [logits_apply]
  unfold Gate.logit
  simp only [queryMeans_apply, keyMeans_apply]

/-- The two gates attend the same blocks. -/
theorem active_iff (h : Fin 32) (n m : Fin 16) :
    Gate.Active (Run.queryMeans q) (Run.keyMeans k) w z h n m ↔ active (logits (means (heads q)) (means (shared k)) w z) (ix4 0 h n m) = 1#1 := by
  rw [active_apply, ← logit_eq]
  exact Iff.rfl

/-! ## The scores -/

/-- The block mask as the flash region reads it. -/
def blockMask : Vec Ideal S16x8x4x16 .f32 := fun i =>
  Gate.bias (Run.queryMeans q) (Run.keyMeans k) w z
    ⟨4 * (i 1).val + (i 2).val, by have := (i 1).isLt; have := (i 2).isLt; simp at *; omega⟩ (i 0) (i 3)

/-- The kernel's score of a head's query at a key. -/
def score (h : Fin 32) (t : Fin 2048) (j : ℕ) : EReal := Flash.rowScore (Run.scaled q) k (blockMask q k w z) h t j

/-- The block mask at a query's head and block. -/
theorem blockMask_apply (h : Fin 32) (n m : Fin 16) :
    blockMask q k w z (ix4 n ⟨h.val / 4, by omega⟩ ⟨h.val % 4, by omega⟩ m) = Gate.bias (Run.queryMeans q) (Run.keyMeans k) w z h n m := by
  unfold blockMask
  have e : (⟨4 * (h.val / 4) + h.val % 4, by omega⟩ : Fin 32) = h := Fin.ext (by simp only; omega)
  exact congrArg (fun x => Gate.bias (Run.queryMeans q) (Run.keyMeans k) w z x n m) e

/-- The scale's word is not negative and not infinite. -/
theorem scale_real : ∃ r : ℝ, 0 ≤ r ∧ Ideal.ofBits FTy.f32 0x3DB504F3#32 = (r : EReal) := by
  refine ⟨_, ?_, by simp only [Ideal.ofBits, Ideal.ieee]; simp [-EReal.coe_mul]; rfl⟩
  positivity

/-- A sum of scaled queries times keys is the scaled sum. -/
theorem dot_scaled (f g : Fin 128 → EReal) :
    ∑ d, (f d * Ideal.ofBits FTy.f32 0x3DB504F3#32) * g d = (∑ d, f d * g d) * Ideal.ofBits FTy.f32 0x3DB504F3#32 := by
  obtain ⟨r, h0, hr⟩ := scale_real
  rw [hr, mul_comm (∑ d, f d * g d), Softmax.mul_sum _ (EReal.coe_nonneg.mpr h0) (EReal.coe_ne_top r)]
  exact Finset.sum_congr rfl fun d _ => by rw [mul_comm (f d), mul_assoc]

/-- The kernel's score at a key is the reference's. -/
theorem score_eq (h : Fin 32) (t j : Fin 2048) : score q k w z h t j.val = table q k w z (ix4 0 h t j) := by
  have ej : Fin.ofNat 2048 j.val = j := Fin.ext (Nat.mod_eq_of_lt j.isLt)
  have eb : Fin.ofNat 16 (j.val / 128) = (⟨j.val / 128, by omega⟩ : Fin 16) := Fin.ext (Nat.mod_eq_of_lt (by omega))
  unfold score Flash.rowScore table
  rw [scores_apply, ej, eb, blockMask_apply]
  simp only [heads_apply, shared_apply]
  have hallow := allowed_apply (active (logits (means (heads q)) (means (shared k)) w z)) h t j
  rw [← active_iff] at hallow
  unfold Gate.bias
  by_cases hj : j.val ≤ t.val
  · rw [if_pos hj]
    by_cases ha : Gate.Active (Run.queryMeans q) (Run.keyMeans k) w z h ⟨t.val / 128, by omega⟩ ⟨j.val / 128, by omega⟩
    · rw [if_pos ha, if_pos (hallow.mpr ⟨ha, hj⟩), add_zero]
      exact dot_scaled _ _
    · rw [if_neg ha, if_neg fun c => ha (hallow.mp c).1, EReal.add_bot]
  · rw [if_neg hj, if_neg fun c => hj (hallow.mp c).2]

/-! ## Finiteness -/

/-- Every element is a real number. -/
def Finite {s : Shape} (x : FVec Ideal s .f32) : Prop := ∀ i, ∃ r : ℝ, (x i : EReal) = (r : EReal)

variable {q k}

/-- A dot product of finite factors is finite. -/
theorem dot_finite (hq : Finite q) (hk : Finite k) (a : Fin 128 → S2048x4096.Idx) (b : Fin 128 → S2048x1024.Idx) :
    ∃ r : ℝ, (∑ d, Run.scaled q (a d) * k (b d) : EReal) = (r : EReal) := by
  refine Finset.sum_induction _ (fun x : EReal => ∃ r : ℝ, x = (r : EReal)) ?_ ⟨0, rfl⟩ fun d _ => ?_
  · rintro _ _ ⟨x, rfl⟩ ⟨y, rfl⟩; exact ⟨x + y, (EReal.coe_add x y).symm⟩
  · obtain ⟨x, hx⟩ := hq (a d)
    obtain ⟨y, hy⟩ := hk (b d)
    obtain ⟨r, _, hr⟩ := scale_real
    refine ⟨x * r * y, ?_⟩
    unfold Run.scaled
    rw [hx, hy, hr, EReal.coe_mul, EReal.coe_mul]

/-- On finite queries and keys no score is plus infinity. -/
theorem score_ne_top (hq : Finite q) (hk : Finite k) (h : Fin 32) (t : Fin 2048) (j : ℕ) : score q k w z h t j ≠ ⊤ := by
  unfold score Flash.rowScore
  split
  · obtain ⟨r, hr⟩ := dot_finite hq hk (fun d => ix2 t ⟨128 * h.val + d.val, by omega⟩) (fun d => ix2 (Fin.ofNat 2048 j) ⟨128 * (h.val / 4) + d.val, by omega⟩)
    rw [hr, blockMask_apply]
    unfold Gate.bias
    split
    · rw [add_zero]; exact EReal.coe_ne_top r
    · rw [EReal.add_bot]; exact bot_ne_top
  · exact bot_ne_top

/-- On finite queries and keys a query's score at its own token is not minus infinity. -/
theorem score_self (hq : Finite q) (hk : Finite k) (h : Fin 32) (t : Fin 2048) : score q k w z h t t.val ≠ ⊥ := by
  have eb : Fin.ofNat 16 (t.val / 128) = (⟨t.val / 128, by omega⟩ : Fin 16) := Fin.ext (Nat.mod_eq_of_lt (by omega))
  unfold score Flash.rowScore
  rw [if_pos le_rfl]
  obtain ⟨r, hr⟩ := dot_finite hq hk (fun d => ix2 t ⟨128 * h.val + d.val, by omega⟩) (fun d => ix2 (Fin.ofNat 2048 t.val) ⟨128 * (h.val / 4) + d.val, by omega⟩)
  rw [hr, eb, blockMask_apply]
  unfold Gate.bias
  have ha : Gate.Active (Run.queryMeans q) (Run.keyMeans k) w z h ⟨t.val / 128, by omega⟩ ⟨t.val / 128, by omega⟩ := Or.inr rfl
  rw [if_pos ha, add_zero]
  exact EReal.coe_ne_bot r

/-! ## The output -/

/-- On finite queries and keys the two attention outputs agree. -/
theorem attend_eq (hq : Finite q) (hk : Finite k) :
    Flash.attend (Run.scaled q) k v (blockMask q k w z) = attention (table q k w z) (shared v) := by
  funext i
  obtain ⟨t, b, rfl⟩ : ∃ (t : Fin 2048) (b : Fin 4096), i = ix2 t b := ⟨i 0, i 1, eq_ix2 i⟩
  unfold attention
  rw [output_apply]
  simp only [weights_apply, powers_apply, greatest_apply, ← score_eq, shared_apply]
  rw [Softmax.fold_eq_top (score q k w z ⟨b.val / 128, by omega⟩ t) 2048]
  refine (Softmax.quotient_eq (score q k w z ⟨b.val / 128, by omega⟩ t) (Flash.rowVal v ⟨b.val / 128, by omega⟩ ⟨b.val % 128, by omega⟩)
    (score_ne_top w z hq hk _ t) (n := 512 * (t.val / 512 + 1)) (N := 2048) (by omega) (fun j hj => ?_) (j := t.val) (by omega) (score_self w z hq hk _ t)).trans ?_
  · unfold score Flash.rowScore
    exact if_neg (by omega)
  · refine Finset.sum_congr rfl fun j _ => ?_
    have ej : Fin.ofNat 2048 j.val = j := Fin.ext (Nat.mod_eq_of_lt j.isLt)
    unfold Flash.rowVal
    rw [ej]

end Cert.Proof.Equation

end
-- ==== Proof.Finite.lean ====
/-
  What the precondition says: every query and every key element is a real number.
-/
module

public import proofs.«01_k».proof.Pre_scores_finite
public import proofs.«01_k».proof.Proof.Equation
public import Idealize.ShloMosaic.Lib.ReduceAll

@[expose] public section

set_option maxRecDepth 16384

noncomputable section

namespace Cert.Pre_scores_finite

open Idealize.ShloMosaic

/-- The shape relations the predicate's operations take hold. -/
theorem facts : Facts where
  bcast_S_S2048x4096 := by decide
  reducesTo_S2048x4096_S_d0_1 := by decide
  h_S_ := by decide
  bcast_S_S2048x1024 := by decide
  reducesTo_S2048x1024_S_d0_1 := by decide

/-- The predicate's bound is plus infinity. -/
theorem word_top : Ideal.ofBits FTy.f32 0x7F800000#32 = ⊤ := by
  simp [Ideal.ofBits, Ideal.ieee]

/-- A scalar has one index. -/
instance : Subsingleton S_.Idx := ⟨fun a b => funext fun d => d.elim0⟩

/-- An element whose magnitude compares below plus infinity is a real number. -/
theorem real_of_abs_lt (x : EReal) (e : (FloatOps.cmpf (F := Ideal) .olt (FloatOps.hostAbsf (F := Ideal) (φ := .f32) x) (Ideal.ofBits FTy.f32 0x7F800000#32) : BitVec 1) = 1#1) :
    ∃ r : ℝ, x = (r : EReal) := by
  rw [word_top] at e
  have hlt : max x (-x) < (⊤ : EReal) := by
    by_contra hc
    exact absurd e (by simp [FloatOps.cmpf, FloatOps.absf, Ideal.cmp, hc])
  induction x with
  | bot => exact absurd hlt (by simp)
  | top => exact absurd hlt (by simp)
  | coe r => exact ⟨r, rfl⟩

/-- If the predicate holds, the queries and the keys are finite. -/
theorem finite [Facts] (q : FVec Ideal S2048x4096 .f32) (k v : FVec Ideal S2048x1024 .f32) (w z : FVec Ideal S128x64 .f32)
    (e : fn q k v w z = fun _ => 1#1) : Cert.Proof.Equation.Finite q ∧ Cert.Proof.Equation.Finite k := by
  obtain ⟨e1, e2⟩ := IntOp.andi_eq_one.mp (congrFun e (fun d => d.elim0))
  exact ⟨fun i => real_of_abs_lt _ (Host.reduce_andi_all _ _ _ _ _ e1 i), fun i => real_of_abs_lt _ (Host.reduce_andi_all _ _ _ _ _ e2 i)⟩

end Cert.Pre_scores_finite

end
-- ==== Proof.KernelRun.lean ====
/-
  The kernel's run: its result array ends at what the flash region leaves, its arguments as launched.
-/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

set_option backward.isDefEq.respectTransparency.types false in
/-- Every weakly fair run of the kernel ends, its result array holding the flash region's write-backs over what the host
    operations prepared, and the five arguments unchanged. -/
theorem run : θ_run defs (onTc (τ := τ) (main (F := Ideal))) ⟨m, fun _ => 0, ρ⟩ (fun r => ∀ c : Dev nD,
      r.2.mem ((c.tc : Thread nD τ).loc main_v22) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v22 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Run

end
-- ==== Proof.Result.lean ====
/-
  The two programs' results: the attention of the arguments each memory starts with.
-/
module

public import proofs.«01_k».proof.Proof.Equation

@[expose] public section

set_option maxRecDepth 16384

noncomputable section

namespace Cert.Proof.Result

open Idealize.ShloMosaic Idealize.ShloMosaic.TcCoe
open Cert.KernelIdeal Cert.KernelIdeal.Gen
open Cert.ReferenceIdeal.Parts Cert.Proof.Equation

variable (m : (ℓ : Loc nD τ sig) → Buf (Elt Ideal) ℓ) (ρ : Dev nD → PrngReg)

/-- The attention of the arguments a memory of the kernel's machine holds on a device. -/
def expected (c : Dev nD) : Buf (Elt Ideal) ((c : Thread nD τ).loc main_v22) :=
  attention (table (m ((c : Thread nD τ).loc main_arg0)) (m ((c : Thread nD τ).loc main_arg1))
    (m ((c : Thread nD τ).loc main_arg3)) (m ((c : Thread nD τ).loc main_arg4))) (shared (m ((c : Thread nD τ).loc main_arg2)))

/-- The mask the flash region reads is the block mask of the arguments. -/
theorem mask_eq (c : Dev nD) : V3 m ρ c main_v16 = blockMask (m ((c : Thread nD τ).loc main_arg0)) (m ((c : Thread nD τ).loc main_arg1))
    (m ((c : Thread nD τ).loc main_arg3)) (m ((c : Thread nD τ).loc main_arg4)) := by
  have e3 : V1 m ρ c main_arg3 = m ((c : Thread nD τ).loc main_arg3) := W1_args m ρ c main_arg3 (by decide)
  have e4 : V1 m ρ c main_arg4 = m ((c : Thread nD τ).loc main_arg4) := W1_args m ρ c main_arg4 (by decide)
  rw [Run.entry_v16]
  unfold Gate.mask
  rw [Run.entry_v10, Run.entry_v15, e3, e4]
  rfl

/-- On finite queries and keys the flash region leaves the attention of the arguments in its result array. -/
theorem kernel_result (c : Dev nD) (hq : Finite (m ((c : Thread nD τ).loc main_arg0) : FVec Ideal S2048x4096 .f32))
    (hk : Finite (m ((c : Thread nD τ).loc main_arg1) : FVec Ideal S2048x1024 .f32)) :
    (dat1 (V3 m ρ) c).arrAt 4 cfg1.N = expected m c := by
  rw [Flash.arr_eq (V3 m ρ) c (by rw [Run.entry_v19, Run.entry_v20, mask_eq]; exact score_ne_top _ _ hq hk),
    Run.entry_v19, Run.entry_v20, Run.entry_v21, mask_eq]
  exact attend_eq _ _ _ hq hk

end Cert.Proof.Result

end
-- ==== Proof.lean ====
/-
  The certificate: the three programs run and leave their arguments and semaphores as they were, naming the mask
  literal preserves the kernel, and at the ideal instance the kernel's result is the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Finite
public import proofs.«01_k».proof.Proof.KernelRun
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments unchanged and has no semaphore to leave counted. -/
theorem reference_quiescent : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

/-- From memories agreeing on arguments whose queries and keys are finite, the ideal kernel and the reference end with
    equal results. -/
theorem algebraic : Cert.algebraic_KernelIdeal_ReferenceIdeal_pre_scores_finite (hKernelIdeal := Cert.KernelIdeal.Gen.facts)
    (hReferenceIdeal := Cert.ReferenceIdeal.Gen.facts) (hPre_scores_finite := Cert.Pre_scores_finite.facts) := by
  intro m g m' g' hpre hagree
  refine ⟨Result.expected m, (θ_run _ _ _).mono (fun r h c => ?_) (Cert.KernelIdeal.Run.run m g),
    (θ_run _ _ _).mono (fun r h c => ⟨(h c).1.trans ?_, (h c).2⟩) (Cert.ReferenceIdeal.Value.run m' g')⟩
  · obtain ⟨hq, hk⟩ := @Cert.Pre_scores_finite.finite Cert.Pre_scores_finite.facts _ _ _ _ _ (hpre c)
    exact ⟨(h c).1.trans (Result.kernel_result m g c hq hk), (h c).2⟩
  · obtain ⟨e0, e1, e2, e3, e4⟩ := hagree c
    rw [Cert.ReferenceIdeal.Parts.result_eq m' c, e0, e1, e2, e3, e4]
    rfl

/-- Every claim stated of the kernel holds. -/
theorem claim : Cert.Claim :=
  ⟨Cert.Kernel.Gen.facts, Cert.KernelIdeal.Gen.facts, Cert.ReferenceIdeal.Gen.facts, Cert.Pre_scores_finite.facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    IdealRules.named_const.statement Cert.KernelIdeal.κ "neg" .f32 0xF149F2CA#32 ⊥ rfl,
    algebraic⟩

end Cert.Proof

end
